-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S2x256x512 : Shape := ⟨3, ![2, 256, 512]⟩
abbrev S2 : Shape := ⟨1, ![2]⟩
abbrev S_ : Shape := ⟨0, ![]⟩
abbrev S256x256 : Shape := ⟨2, ![256, 256]⟩
abbrev S1x256x512 : Shape := ⟨3, ![1, 256, 512]⟩
abbrev S256x512 : Shape := ⟨2, ![256, 512]⟩

abbrev nBuf : Space → Nat
  | .hbm => 5
  | .vmem => 8
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x256, .fp8e4m3⟩
  | .local _ .vmem, ⟨1, _⟩ => ⟨S256x2048, .fp8e4m3⟩
  | .local _ .vmem, ⟨2, _⟩ => ⟨S4096x2048, .f32⟩
  | .local _ .vmem, ⟨3, _⟩ => ⟨S4096x2048, .bf16⟩
  | .local _ .vmem, ⟨4, _⟩ => ⟨S2x256x512, .bf16⟩
  | .local _ .vmem, ⟨5, _⟩ => ⟨S2x256x512, .bf16⟩
  | .local _ .vmem, ⟨6, _⟩ => ⟨S2x256x512, .bf16⟩
  | .local _ .vmem, ⟨7, _⟩ => ⟨S2x256x512, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch5 : Ref sig .tc := ⟨.vmem, 5, rfl⟩
abbrev cc0_scratch9 : Ref sig .tc := ⟨.vmem, 6, rfl⟩
abbrev cc0_scratch13 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_11 : BitVec 32 := 0#32
  let c16_i32_12 : BitVec 32 := 16#32
  let v16 : BitVec 32 := Scalar.addi c0_i32_11 c16_i32_12
  let c1_i32_13 : BitVec 32 := 1#32
  ⟨c0_i32_11, v16, c1_i32_13⟩
def k0_off1 (k0_t1 : Fin k0_t1_loop.trips) : Fin 2 → Nat :=
  let c0_i32_11 : BitVec 32 := 0#32
  let c1_i32_13 : BitVec 32 := 1#32
  let arg22 : BitVec 32 := Scf.iv c0_i32_11 c1_i32_13 k0_t1
  let c256_i32_178 : BitVec 32 := 256#32
  let v194 : BitVec 32 := Scalar.muli arg22 c256_i32_178
  let v195 : Index := Scalar.indexCast v194
  let c0_179 : Index := 0#32
  ![v195.toNat, 0]
def k0_off2 (k0_t1 : Fin k0_t1_loop.trips) : Fin 2 → Nat :=
  let c0_i32_11 : BitVec 32 := 0#32
  let c1_i32_13 : BitVec 32 := 1#32
  let arg22 : BitVec 32 := Scf.iv c0_i32_11 c1_i32_13 k0_t1
  let c256_i32_180 : BitVec 32 := 256#32
  let v201 : BitVec 32 := Scalar.muli arg22 c256_i32_180
  let v202 : Index := Scalar.indexCast v201
  let c0_181 : Index := 0#32
  ![v202.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_15 : BitVec 32 := 0#32
  let v17 : BitVec 32 := Scalar.subi v2 c0_i32_15
  let c64_i32 : BitVec 32 := 64#32
  let v18 : BitVec 32 := Scalar.addi v17 c64_i32
  let c16_i32_16 : BitVec 32 := 16#32
  let v19 : BitVec 32 := Scalar.remsi v18 c16_i32_16
  let c256_i32 : BitVec 32 := 256#32
  let v20 : BitVec 32 := Scalar.muli v19 c256_i32
  let c0_i32_24 : BitVec 32 := 0#32
  ![v20.toNat, 0]
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_20 : BitVec 32 := 1#32
  let v21 : BitVec 32 := Scalar.muli v7 c1_i32_20
  let v22 : BitVec 32 := Scalar.addi c0_i32_21 v21
  v22.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_25 : BitVec 32 := 0#32
  let v30 : BitVec 32 := Scalar.subi v2 c0_i32_25
  let c64_i32_26 : BitVec 32 := 64#32
  let v31 : BitVec 32 := Scalar.addi v30 c64_i32_26
  let c16_i32_27 : BitVec 32 := 16#32
  let v32 : BitVec 32 := Scalar.remsi v31 c16_i32_27
  let c256_i32_28 : BitVec 32 := 256#32
  let v33 : BitVec 32 := Scalar.muli v32 c256_i32_28
  let c512_i32 : BitVec 32 := 512#32
  ![v33.toNat, 512]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_32 : BitVec 32 := 1#32
  let v34 : BitVec 32 := Scalar.muli v7 c1_i32_32
  let v35 : BitVec 32 := Scalar.addi c0_i32_33 v34
  v35.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_36 : BitVec 32 := 0#32
  let v43 : BitVec 32 := Scalar.subi v2 c0_i32_36
  let c64_i32_37 : BitVec 32 := 64#32
  let v44 : BitVec 32 := Scalar.addi v43 c64_i32_37
  let c16_i32_38 : BitVec 32 := 16#32
  let v45 : BitVec 32 := Scalar.remsi v44 c16_i32_38
  let c256_i32_39 : BitVec 32 := 256#32
  let v46 : BitVec 32 := Scalar.muli v45 c256_i32_39
  let c1024_i32 : BitVec 32 := 1024#32
  ![v46.toNat, 1024]
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_43 : BitVec 32 := 1#32
  let v47 : BitVec 32 := Scalar.muli v5 c1_i32_43
  let v48 : BitVec 32 := Scalar.addi c0_i32_44 v47
  v48.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_47 : BitVec 32 := 0#32
  let v56 : BitVec 32 := Scalar.subi v2 c0_i32_47
  let c64_i32_48 : BitVec 32 := 64#32
  let v57 : BitVec 32 := Scalar.addi v56 c64_i32_48
  let c16_i32_49 : BitVec 32 := 16#32
  let v58 : BitVec 32 := Scalar.remsi v57 c16_i32_49
  let c256_i32_50 : BitVec 32 := 256#32
  let v59 : BitVec 32 := Scalar.muli v58 c256_i32_50
  let c1536_i32 : BitVec 32 := 1536#32
  ![v59.toNat, 1536]
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_54 : BitVec 32 := 1#32
  let v60 : BitVec 32 := Scalar.muli v5 c1_i32_54
  let v61 : BitVec 32 := Scalar.addi c0_i32_55 v60
  v61.toNat
@[reducible] def k0_t2_loop : Scf.Loop 32 :=
  let c1_i32_58 : BitVec 32 := 1#32
  let c29_i32 : BitVec 32 := 29#32
  let v69 : BitVec 32 := Scalar.addi c1_i32_58 c29_i32
  let c1_i32_59 : BitVec 32 := 1#32
  ⟨c1_i32_58, v69, c1_i32_59⟩
def k0_off7 (k0_t2 : Fin k0_t2_loop.trips) : Fin 1 → Nat :=
  let c1_i32_58 : BitVec 32 := 1#32
  let c1_i32_59 : BitVec 32 := 1#32
  let arg22 : BitVec 32 := Scf.iv c1_i32_58 c1_i32_59 k0_t2
  let c1_i32_178 : BitVec 32 := 1#32
  let v194 : BitVec 32 := Scalar.subi arg22 c1_i32_178
  let c2_i32_179 : BitVec 32 := 2#32
  let v195 : BitVec 32 := Scalar.remsi v194 c2_i32_179
  ![v195.toNat]
def k0_off8 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c1_i32_180 : BitVec 32 := 1#32
  let v196 : BitVec 32 := Scalar.subi arg22 c1_i32_180
  let c15_i32 : BitVec 32 := 15#32
  let v197 : BitVec 1 := Scalar.cmpi .slt v196 c15_i32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_181 : BitVec 32 := 1#32
  let v198 : BitVec 32 := Scalar.muli c1_i32_181 v196
  let v199 : BitVec 32 := Scalar.subi v2 v198
  let c1_i32_184 : BitVec 32 := 1#32
  let c1_i32_183 : BitVec 32 := 1#32
  let c15_i32_182 : BitVec 32 := 15#32
  let v200 : BitVec 32 := Scalar.subi v196 c15_i32_182
  let v201 : BitVec 32 := Scalar.subi c1_i32_183 v200
  let v202 : BitVec 32 := Scalar.muli c1_i32_184 v201
  let v203 : BitVec 32 := Scalar.addi v2 v202
  let v204 : BitVec 32 := Scalar.select v197 v199 v203
  let c64_i32_185 : BitVec 32 := 64#32
  let v205 : BitVec 32 := Scalar.addi v204 c64_i32_185
  let c16_i32_186 : BitVec 32 := 16#32
  let v206 : BitVec 32 := Scalar.remsi v205 c16_i32_186
  let c256_i32_187 : BitVec 32 := 256#32
  let v207 : BitVec 32 := Scalar.muli v206 c256_i32_187
  let c0_i32_189 : BitVec 32 := 0#32
  ![v207.toNat, 0]
def k0_off9 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_178 : BitVec 32 := 1#32
  let v194 : BitVec 32 := Scalar.subi arg22 c1_i32_178
  let c2_i32_179 : BitVec 32 := 2#32
  let v195 : BitVec 32 := Scalar.remsi v194 c2_i32_179
  let c0_i32_190 : BitVec 32 := 0#32
  let c0_i32_191 : BitVec 32 := 0#32
  ![v195.toNat, 0, 0]
def k0_cond1 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_197 : BitVec 32 := 1#32
  let v220 : BitVec 32 := Scalar.subi arg22 c1_i32_197
  let c15_i32_199 : BitVec 32 := 15#32
  let v222 : BitVec 1 := Scalar.cmpi .slt v220 c15_i32_199
  let v223 : BitVec 32 := Scalar.extui v222
  let c0_i32_200 : BitVec 32 := 0#32
  let v224 : BitVec 1 := Scalar.cmpi .ne v223 c0_i32_200
  v224

def k0_off10 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_352 : BitVec 32 := 1#32
  let c1_i32_58 : BitVec 32 := 1#32
  let c1_i32_59 : BitVec 32 := 1#32
  let arg22 : BitVec 32 := Scf.iv c1_i32_58 c1_i32_59 k0_t2
  let c1_i32_197 : BitVec 32 := 1#32
  let v220 : BitVec 32 := Scalar.subi arg22 c1_i32_197
  let c1_i32_351 : BitVec 32 := 1#32
  let v438 : BitVec 32 := Scalar.addi v220 c1_i32_351
  let v439 : BitVec 32 := Scalar.muli c1_i32_352 v438
  let v440 : BitVec 32 := Scalar.subi v2 v439
  let c64_i32_353 : BitVec 32 := 64#32
  let v441 : BitVec 32 := Scalar.addi v440 c64_i32_353
  let c16_i32_354 : BitVec 32 := 16#32
  let v442 : BitVec 32 := Scalar.remsi v441 c16_i32_354
  let c256_i32_355 : BitVec 32 := 256#32
  let v443 : BitVec 32 := Scalar.muli v442 c256_i32_355
  let v444 : Index := Scalar.indexCast v443
  let c0_356 : Index := 0#32
  ![v444.toNat, 0]
def k0_off11 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_197 : BitVec 32 := 1#32
  let v220 : BitVec 32 := Scalar.subi arg22 c1_i32_197
  let c2_i32_198 : BitVec 32 := 2#32
  let v221 : BitVec 32 := Scalar.remsi v220 c2_i32_198
  let v447 : Index := Scalar.indexCast v221
  let c0_357 : Index := 0#32
  let c0_358 : Index := 0#32
  ![v447.toNat, 0, 0]
def k0_cond2 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_197 : BitVec 32 := 1#32
  let v220 : BitVec 32 := Scalar.subi arg22 c1_i32_197
  let c15_i32_201 : BitVec 32 := 15#32
  let v225 : BitVec 1 := Scalar.cmpi .sge v220 c15_i32_201
  let v226 : BitVec 32 := Scalar.extui v225
  let c0_i32_202 : BitVec 32 := 0#32
  let v227 : BitVec 1 := Scalar.cmpi .ne v226 c0_i32_202
  v227

def k0_off12 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_197 : BitVec 32 := 1#32
  let v220 : BitVec 32 := Scalar.subi arg22 c1_i32_197
  let c2_i32_198 : BitVec 32 := 2#32
  let v221 : BitVec 32 := Scalar.remsi v220 c2_i32_198
  let v438 : Index := Scalar.indexCast v221
  let c0_351 : Index := 0#32
  let c0_352 : Index := 0#32
  ![v438.toNat, 0, 0]
def k0_off13 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_354 : BitVec 32 := 1#32
  let c1_i32_58 : BitVec 32 := 1#32
  let c1_i32_59 : BitVec 32 := 1#32
  let arg22 : BitVec 32 := Scf.iv c1_i32_58 c1_i32_59 k0_t2
  let c1_i32_197 : BitVec 32 := 1#32
  let v220 : BitVec 32 := Scalar.subi arg22 c1_i32_197
  let c15_i32_353 : BitVec 32 := 15#32
  let v441 : BitVec 32 := Scalar.subi v220 c15_i32_353
  let v442 : BitVec 32 := Scalar.muli c1_i32_354 v441
  let v443 : BitVec 32 := Scalar.subi v2 v442
  let c64_i32_355 : BitVec 32 := 64#32
  let v444 : BitVec 32 := Scalar.addi v443 c64_i32_355
  let c16_i32_356 : BitVec 32 := 16#32
  let v445 : BitVec 32 := Scalar.remsi v444 c16_i32_356
  let c256_i32_357 : BitVec 32 := 256#32
  let v446 : BitVec 32 := Scalar.muli v445 c256_i32_357
  let v447 : Index := Scalar.indexCast v446
  let c0_358 : Index := 0#32
  ![v447.toNat, 0]
def k0_cond3 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_197 : BitVec 32 := 1#32
  let v220 : BitVec 32 := Scalar.subi arg22 c1_i32_197
  let c27_i32 : BitVec 32 := 27#32
  let v228 : BitVec 1 := Scalar.cmpi .sle v220 c27_i32
  let v229 : BitVec 32 := Scalar.extui v228
  let c0_i32_203 : BitVec 32 := 0#32
  let v230 : BitVec 1 := Scalar.cmpi .ne v229 c0_i32_203
  v230

def k0_dev7 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_352 : BitVec 32 := 1#32
  let v438 : BitVec 32 := Scalar.muli v5 c1_i32_352
  let v439 : BitVec 32 := Scalar.addi c0_i32_353 v438
  v439.toNat
def k0_off14 (k0_t2 : Fin k0_t2_loop.trips) : Fin 1 → Nat :=
  let c1_i32_58 : BitVec 32 := 1#32
  let c1_i32_59 : BitVec 32 := 1#32
  let arg22 : BitVec 32 := Scf.iv c1_i32_58 c1_i32_59 k0_t2
  let c2_i32_206 : BitVec 32 := 2#32
  let v234 : BitVec 32 := Scalar.remsi arg22 c2_i32_206
  ![v234.toNat]
def k0_off15 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c2_i32_206 : BitVec 32 := 2#32
  let v234 : BitVec 32 := Scalar.remsi arg22 c2_i32_206
  let c0_i32_217 : BitVec 32 := 0#32
  let c0_i32_218 : BitVec 32 := 0#32
  ![v234.toNat, 0, 0]
def k0_off16 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c15_i32_207 : BitVec 32 := 15#32
  let v235 : BitVec 1 := Scalar.cmpi .slt arg22 c15_i32_207
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_208 : BitVec 32 := 1#32
  let v236 : BitVec 32 := Scalar.muli c1_i32_208 arg22
  let v237 : BitVec 32 := Scalar.subi v2 v236
  let c1_i32_211 : BitVec 32 := 1#32
  let c1_i32_210 : BitVec 32 := 1#32
  let c15_i32_209 : BitVec 32 := 15#32
  let v238 : BitVec 32 := Scalar.subi arg22 c15_i32_209
  let v239 : BitVec 32 := Scalar.subi c1_i32_210 v238
  let v240 : BitVec 32 := Scalar.muli c1_i32_211 v239
  let v241 : BitVec 32 := Scalar.addi v2 v240
  let v242 : BitVec 32 := Scalar.select v235 v237 v241
  let c64_i32_212 : BitVec 32 := 64#32
  let v243 : BitVec 32 := Scalar.addi v242 c64_i32_212
  let c16_i32_213 : BitVec 32 := 16#32
  let v244 : BitVec 32 := Scalar.remsi v243 c16_i32_213
  let c256_i32_214 : BitVec 32 := 256#32
  let v245 : BitVec 32 := Scalar.muli v244 c256_i32_214
  let c0_i32_219 : BitVec 32 := 0#32
  ![v245.toNat, 0]
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_215 : BitVec 32 := 1#32
  let v246 : BitVec 32 := Scalar.muli v7 c1_i32_215
  let v247 : BitVec 32 := Scalar.addi c0_i32_216 v246
  v247.toNat
def k0_off17 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c1_i32_222 : BitVec 32 := 1#32
  let v257 : BitVec 32 := Scalar.subi arg22 c1_i32_222
  let c15_i32_223 : BitVec 32 := 15#32
  let v258 : BitVec 1 := Scalar.cmpi .slt v257 c15_i32_223
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_224 : BitVec 32 := 1#32
  let v259 : BitVec 32 := Scalar.muli c1_i32_224 v257
  let v260 : BitVec 32 := Scalar.subi v2 v259
  let c1_i32_227 : BitVec 32 := 1#32
  let c1_i32_226 : BitVec 32 := 1#32
  let c15_i32_225 : BitVec 32 := 15#32
  let v261 : BitVec 32 := Scalar.subi v257 c15_i32_225
  let v262 : BitVec 32 := Scalar.subi c1_i32_226 v261
  let v263 : BitVec 32 := Scalar.muli c1_i32_227 v262
  let v264 : BitVec 32 := Scalar.addi v2 v263
  let v265 : BitVec 32 := Scalar.select v258 v260 v264
  let c64_i32_228 : BitVec 32 := 64#32
  let v266 : BitVec 32 := Scalar.addi v265 c64_i32_228
  let c16_i32_229 : BitVec 32 := 16#32
  let v267 : BitVec 32 := Scalar.remsi v266 c16_i32_229
  let c256_i32_230 : BitVec 32 := 256#32
  let v268 : BitVec 32 := Scalar.muli v267 c256_i32_230
  let c512_i32_232 : BitVec 32 := 512#32
  ![v268.toNat, 512]
def k0_cond5 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_240 : BitVec 32 := 1#32
  let v281 : BitVec 32 := Scalar.subi arg22 c1_i32_240
  let c15_i32_242 : BitVec 32 := 15#32
  let v283 : BitVec 1 := Scalar.cmpi .slt v281 c15_i32_242
  let v284 : BitVec 32 := Scalar.extui v283
  let c0_i32_243 : BitVec 32 := 0#32
  let v285 : BitVec 1 := Scalar.cmpi .ne v284 c0_i32_243
  v285

def k0_off18 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_352 : BitVec 32 := 1#32
  let c1_i32_58 : BitVec 32 := 1#32
  let c1_i32_59 : BitVec 32 := 1#32
  let arg22 : BitVec 32 := Scf.iv c1_i32_58 c1_i32_59 k0_t2
  let c1_i32_240 : BitVec 32 := 1#32
  let v281 : BitVec 32 := Scalar.subi arg22 c1_i32_240
  let c1_i32_351 : BitVec 32 := 1#32
  let v438 : BitVec 32 := Scalar.addi v281 c1_i32_351
  let v439 : BitVec 32 := Scalar.muli c1_i32_352 v438
  let v440 : BitVec 32 := Scalar.subi v2 v439
  let c64_i32_353 : BitVec 32 := 64#32
  let v441 : BitVec 32 := Scalar.addi v440 c64_i32_353
  let c16_i32_354 : BitVec 32 := 16#32
  let v442 : BitVec 32 := Scalar.remsi v441 c16_i32_354
  let c256_i32_355 : BitVec 32 := 256#32
  let v443 : BitVec 32 := Scalar.muli v442 c256_i32_355
  let v444 : Index := Scalar.indexCast v443
  let c512_356 : Index := 512#32
  ![v444.toNat, 512]
def k0_off19 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_240 : BitVec 32 := 1#32
  let v281 : BitVec 32 := Scalar.subi arg22 c1_i32_240
  let c2_i32_241 : BitVec 32 := 2#32
  let v282 : BitVec 32 := Scalar.remsi v281 c2_i32_241
  let v447 : Index := Scalar.indexCast v282
  let c0_357 : Index := 0#32
  let c0_358 : Index := 0#32
  ![v447.toNat, 0, 0]
def k0_cond6 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_240 : BitVec 32 := 1#32
  let v281 : BitVec 32 := Scalar.subi arg22 c1_i32_240
  let c15_i32_244 : BitVec 32 := 15#32
  let v286 : BitVec 1 := Scalar.cmpi .sge v281 c15_i32_244
  let v287 : BitVec 32 := Scalar.extui v286
  let c0_i32_245 : BitVec 32 := 0#32
  let v288 : BitVec 1 := Scalar.cmpi .ne v287 c0_i32_245
  v288

def k0_off20 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_240 : BitVec 32 := 1#32
  let v281 : BitVec 32 := Scalar.subi arg22 c1_i32_240
  let c2_i32_241 : BitVec 32 := 2#32
  let v282 : BitVec 32 := Scalar.remsi v281 c2_i32_241
  let v438 : Index := Scalar.indexCast v282
  let c0_351 : Index := 0#32
  let c0_352 : Index := 0#32
  ![v438.toNat, 0, 0]
def k0_off21 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_354 : BitVec 32 := 1#32
  let c1_i32_58 : BitVec 32 := 1#32
  let c1_i32_59 : BitVec 32 := 1#32
  let arg22 : BitVec 32 := Scf.iv c1_i32_58 c1_i32_59 k0_t2
  let c1_i32_240 : BitVec 32 := 1#32
  let v281 : BitVec 32 := Scalar.subi arg22 c1_i32_240
  let c15_i32_353 : BitVec 32 := 15#32
  let v441 : BitVec 32 := Scalar.subi v281 c15_i32_353
  let v442 : BitVec 32 := Scalar.muli c1_i32_354 v441
  let v443 : BitVec 32 := Scalar.subi v2 v442
  let c64_i32_355 : BitVec 32 := 64#32
  let v444 : BitVec 32 := Scalar.addi v443 c64_i32_355
  let c16_i32_356 : BitVec 32 := 16#32
  let v445 : BitVec 32 := Scalar.remsi v444 c16_i32_356
  let c256_i32_357 : BitVec 32 := 256#32
  let v446 : BitVec 32 := Scalar.muli v445 c256_i32_357
  let v447 : Index := Scalar.indexCast v446
  let c512_358 : Index := 512#32
  ![v447.toNat, 512]
def k0_cond7 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_240 : BitVec 32 := 1#32
  let v281 : BitVec 32 := Scalar.subi arg22 c1_i32_240
  let c27_i32_246 : BitVec 32 := 27#32
  let v289 : BitVec 1 := Scalar.cmpi .sle v281 c27_i32_246
  let v290 : BitVec 32 := Scalar.extui v289
  let c0_i32_247 : BitVec 32 := 0#32
  let v291 : BitVec 1 := Scalar.cmpi .ne v290 c0_i32_247
  v291

def k0_dev9 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_352 : BitVec 32 := 1#32
  let v438 : BitVec 32 := Scalar.muli v5 c1_i32_352
  let v439 : BitVec 32 := Scalar.addi c0_i32_353 v438
  v439.toNat
def k0_off22 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c15_i32_251 : BitVec 32 := 15#32
  let v296 : BitVec 1 := Scalar.cmpi .slt arg22 c15_i32_251
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_252 : BitVec 32 := 1#32
  let v297 : BitVec 32 := Scalar.muli c1_i32_252 arg22
  let v298 : BitVec 32 := Scalar.subi v2 v297
  let c1_i32_255 : BitVec 32 := 1#32
  let c1_i32_254 : BitVec 32 := 1#32
  let c15_i32_253 : BitVec 32 := 15#32
  let v299 : BitVec 32 := Scalar.subi arg22 c15_i32_253
  let v300 : BitVec 32 := Scalar.subi c1_i32_254 v299
  let v301 : BitVec 32 := Scalar.muli c1_i32_255 v300
  let v302 : BitVec 32 := Scalar.addi v2 v301
  let v303 : BitVec 32 := Scalar.select v296 v298 v302
  let c64_i32_256 : BitVec 32 := 64#32
  let v304 : BitVec 32 := Scalar.addi v303 c64_i32_256
  let c16_i32_257 : BitVec 32 := 16#32
  let v305 : BitVec 32 := Scalar.remsi v304 c16_i32_257
  let c256_i32_258 : BitVec 32 := 256#32
  let v306 : BitVec 32 := Scalar.muli v305 c256_i32_258
  let c512_i32_263 : BitVec 32 := 512#32
  ![v306.toNat, 512]
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_259 : BitVec 32 := 1#32
  let v307 : BitVec 32 := Scalar.muli v7 c1_i32_259
  let v308 : BitVec 32 := Scalar.addi c0_i32_260 v307
  v308.toNat
def k0_off23 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c1_i32_266 : BitVec 32 := 1#32
  let v318 : BitVec 32 := Scalar.subi arg22 c1_i32_266
  let c15_i32_267 : BitVec 32 := 15#32
  let v319 : BitVec 1 := Scalar.cmpi .slt v318 c15_i32_267
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32 : BitVec 32 := 4294967295#32
  let v320 : BitVec 32 := Scalar.muli c_m1_i32 v318
  let v321 : BitVec 32 := Scalar.subi v2 v320
  let c_m1_i32_270 : BitVec 32 := 4294967295#32
  let c1_i32_269 : BitVec 32 := 1#32
  let c15_i32_268 : BitVec 32 := 15#32
  let v322 : BitVec 32 := Scalar.subi v318 c15_i32_268
  let v323 : BitVec 32 := Scalar.subi c1_i32_269 v322
  let v324 : BitVec 32 := Scalar.muli c_m1_i32_270 v323
  let v325 : BitVec 32 := Scalar.addi v2 v324
  let v326 : BitVec 32 := Scalar.select v319 v321 v325
  let c64_i32_271 : BitVec 32 := 64#32
  let v327 : BitVec 32 := Scalar.addi v326 c64_i32_271
  let c16_i32_272 : BitVec 32 := 16#32
  let v328 : BitVec 32 := Scalar.remsi v327 c16_i32_272
  let c256_i32_273 : BitVec 32 := 256#32
  let v329 : BitVec 32 := Scalar.muli v328 c256_i32_273
  let c1024_i32_275 : BitVec 32 := 1024#32
  ![v329.toNat, 1024]
def k0_cond9 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_283 : BitVec 32 := 1#32
  let v342 : BitVec 32 := Scalar.subi arg22 c1_i32_283
  let c15_i32_285 : BitVec 32 := 15#32
  let v344 : BitVec 1 := Scalar.cmpi .slt v342 c15_i32_285
  let v345 : BitVec 32 := Scalar.extui v344
  let c0_i32_286 : BitVec 32 := 0#32
  let v346 : BitVec 1 := Scalar.cmpi .ne v345 c0_i32_286
  v346

def k0_off24 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_352 : BitVec 32 := 4294967295#32
  let c1_i32_58 : BitVec 32 := 1#32
  let c1_i32_59 : BitVec 32 := 1#32
  let arg22 : BitVec 32 := Scf.iv c1_i32_58 c1_i32_59 k0_t2
  let c1_i32_283 : BitVec 32 := 1#32
  let v342 : BitVec 32 := Scalar.subi arg22 c1_i32_283
  let c1_i32_351 : BitVec 32 := 1#32
  let v438 : BitVec 32 := Scalar.addi v342 c1_i32_351
  let v439 : BitVec 32 := Scalar.muli c_m1_i32_352 v438
  let v440 : BitVec 32 := Scalar.subi v2 v439
  let c64_i32_353 : BitVec 32 := 64#32
  let v441 : BitVec 32 := Scalar.addi v440 c64_i32_353
  let c16_i32_354 : BitVec 32 := 16#32
  let v442 : BitVec 32 := Scalar.remsi v441 c16_i32_354
  let c256_i32_355 : BitVec 32 := 256#32
  let v443 : BitVec 32 := Scalar.muli v442 c256_i32_355
  let v444 : Index := Scalar.indexCast v443
  let c1024_356 : Index := 1024#32
  ![v444.toNat, 1024]
def k0_off25 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_283 : BitVec 32 := 1#32
  let v342 : BitVec 32 := Scalar.subi arg22 c1_i32_283
  let c2_i32_284 : BitVec 32 := 2#32
  let v343 : BitVec 32 := Scalar.remsi v342 c2_i32_284
  let v447 : Index := Scalar.indexCast v343
  let c0_357 : Index := 0#32
  let c0_358 : Index := 0#32
  ![v447.toNat, 0, 0]
def k0_cond10 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_283 : BitVec 32 := 1#32
  let v342 : BitVec 32 := Scalar.subi arg22 c1_i32_283
  let c15_i32_287 : BitVec 32 := 15#32
  let v347 : BitVec 1 := Scalar.cmpi .sge v342 c15_i32_287
  let v348 : BitVec 32 := Scalar.extui v347
  let c0_i32_288 : BitVec 32 := 0#32
  let v349 : BitVec 1 := Scalar.cmpi .ne v348 c0_i32_288
  v349

def k0_off26 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_283 : BitVec 32 := 1#32
  let v342 : BitVec 32 := Scalar.subi arg22 c1_i32_283
  let c2_i32_284 : BitVec 32 := 2#32
  let v343 : BitVec 32 := Scalar.remsi v342 c2_i32_284
  let v438 : Index := Scalar.indexCast v343
  let c0_351 : Index := 0#32
  let c0_352 : Index := 0#32
  ![v438.toNat, 0, 0]
def k0_off27 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_354 : BitVec 32 := 4294967295#32
  let c1_i32_58 : BitVec 32 := 1#32
  let c1_i32_59 : BitVec 32 := 1#32
  let arg22 : BitVec 32 := Scf.iv c1_i32_58 c1_i32_59 k0_t2
  let c1_i32_283 : BitVec 32 := 1#32
  let v342 : BitVec 32 := Scalar.subi arg22 c1_i32_283
  let c15_i32_353 : BitVec 32 := 15#32
  let v441 : BitVec 32 := Scalar.subi v342 c15_i32_353
  let v442 : BitVec 32 := Scalar.muli c_m1_i32_354 v441
  let v443 : BitVec 32 := Scalar.subi v2 v442
  let c64_i32_355 : BitVec 32 := 64#32
  let v444 : BitVec 32 := Scalar.addi v443 c64_i32_355
  let c16_i32_356 : BitVec 32 := 16#32
  let v445 : BitVec 32 := Scalar.remsi v444 c16_i32_356
  let c256_i32_357 : BitVec 32 := 256#32
  let v446 : BitVec 32 := Scalar.muli v445 c256_i32_357
  let v447 : Index := Scalar.indexCast v446
  let c1024_358 : Index := 1024#32
  ![v447.toNat, 1024]
def k0_cond11 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_283 : BitVec 32 := 1#32
  let v342 : BitVec 32 := Scalar.subi arg22 c1_i32_283
  let c27_i32_289 : BitVec 32 := 27#32
  let v350 : BitVec 1 := Scalar.cmpi .sle v342 c27_i32_289
  let v351 : BitVec 32 := Scalar.extui v350
  let c0_i32_290 : BitVec 32 := 0#32
  let v352 : BitVec 1 := Scalar.cmpi .ne v351 c0_i32_290
  v352

def k0_dev11 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_352 : BitVec 32 := 1#32
  let v438 : BitVec 32 := Scalar.muli v7 c1_i32_352
  let v439 : BitVec 32 := Scalar.addi c0_i32_353 v438
  v439.toNat
def k0_off28 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c15_i32_294 : BitVec 32 := 15#32
  let v357 : BitVec 1 := Scalar.cmpi .slt arg22 c15_i32_294
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_295 : BitVec 32 := 4294967295#32
  let v358 : BitVec 32 := Scalar.muli c_m1_i32_295 arg22
  let v359 : BitVec 32 := Scalar.subi v2 v358
  let c_m1_i32_298 : BitVec 32 := 4294967295#32
  let c1_i32_297 : BitVec 32 := 1#32
  let c15_i32_296 : BitVec 32 := 15#32
  let v360 : BitVec 32 := Scalar.subi arg22 c15_i32_296
  let v361 : BitVec 32 := Scalar.subi c1_i32_297 v360
  let v362 : BitVec 32 := Scalar.muli c_m1_i32_298 v361
  let v363 : BitVec 32 := Scalar.addi v2 v362
  let v364 : BitVec 32 := Scalar.select v357 v359 v363
  let c64_i32_299 : BitVec 32 := 64#32
  let v365 : BitVec 32 := Scalar.addi v364 c64_i32_299
  let c16_i32_300 : BitVec 32 := 16#32
  let v366 : BitVec 32 := Scalar.remsi v365 c16_i32_300
  let c256_i32_301 : BitVec 32 := 256#32
  let v367 : BitVec 32 := Scalar.muli v366 c256_i32_301
  let c1024_i32_306 : BitVec 32 := 1024#32
  ![v367.toNat, 1024]
def k0_dev12 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_302 : BitVec 32 := 1#32
  let v368 : BitVec 32 := Scalar.muli v5 c1_i32_302
  let v369 : BitVec 32 := Scalar.addi c0_i32_303 v368
  v369.toNat
def k0_off29 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c1_i32_309 : BitVec 32 := 1#32
  let v379 : BitVec 32 := Scalar.subi arg22 c1_i32_309
  let c15_i32_310 : BitVec 32 := 15#32
  let v380 : BitVec 1 := Scalar.cmpi .slt v379 c15_i32_310
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_311 : BitVec 32 := 4294967295#32
  let v381 : BitVec 32 := Scalar.muli c_m1_i32_311 v379
  let v382 : BitVec 32 := Scalar.subi v2 v381
  let c_m1_i32_314 : BitVec 32 := 4294967295#32
  let c1_i32_313 : BitVec 32 := 1#32
  let c15_i32_312 : BitVec 32 := 15#32
  let v383 : BitVec 32 := Scalar.subi v379 c15_i32_312
  let v384 : BitVec 32 := Scalar.subi c1_i32_313 v383
  let v385 : BitVec 32 := Scalar.muli c_m1_i32_314 v384
  let v386 : BitVec 32 := Scalar.addi v2 v385
  let v387 : BitVec 32 := Scalar.select v380 v382 v386
  let c64_i32_315 : BitVec 32 := 64#32
  let v388 : BitVec 32 := Scalar.addi v387 c64_i32_315
  let c16_i32_316 : BitVec 32 := 16#32
  let v389 : BitVec 32 := Scalar.remsi v388 c16_i32_316
  let c256_i32_317 : BitVec 32 := 256#32
  let v390 : BitVec 32 := Scalar.muli v389 c256_i32_317
  let c1536_i32_319 : BitVec 32 := 1536#32
  ![v390.toNat, 1536]
def k0_cond13 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_327 : BitVec 32 := 1#32
  let v403 : BitVec 32 := Scalar.subi arg22 c1_i32_327
  let c15_i32_329 : BitVec 32 := 15#32
  let v405 : BitVec 1 := Scalar.cmpi .slt v403 c15_i32_329
  let v406 : BitVec 32 := Scalar.extui v405
  let c0_i32_330 : BitVec 32 := 0#32
  let v407 : BitVec 1 := Scalar.cmpi .ne v406 c0_i32_330
  v407

def k0_off30 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_352 : BitVec 32 := 4294967295#32
  let c1_i32_58 : BitVec 32 := 1#32
  let c1_i32_59 : BitVec 32 := 1#32
  let arg22 : BitVec 32 := Scf.iv c1_i32_58 c1_i32_59 k0_t2
  let c1_i32_327 : BitVec 32 := 1#32
  let v403 : BitVec 32 := Scalar.subi arg22 c1_i32_327
  let c1_i32_351 : BitVec 32 := 1#32
  let v438 : BitVec 32 := Scalar.addi v403 c1_i32_351
  let v439 : BitVec 32 := Scalar.muli c_m1_i32_352 v438
  let v440 : BitVec 32 := Scalar.subi v2 v439
  let c64_i32_353 : BitVec 32 := 64#32
  let v441 : BitVec 32 := Scalar.addi v440 c64_i32_353
  let c16_i32_354 : BitVec 32 := 16#32
  let v442 : BitVec 32 := Scalar.remsi v441 c16_i32_354
  let c256_i32_355 : BitVec 32 := 256#32
  let v443 : BitVec 32 := Scalar.muli v442 c256_i32_355
  let v444 : Index := Scalar.indexCast v443
  let c1536_356 : Index := 1536#32
  ![v444.toNat, 1536]
def k0_off31 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_327 : BitVec 32 := 1#32
  let v403 : BitVec 32 := Scalar.subi arg22 c1_i32_327
  let c2_i32_328 : BitVec 32 := 2#32
  let v404 : BitVec 32 := Scalar.remsi v403 c2_i32_328
  let v447 : Index := Scalar.indexCast v404
  let c0_357 : Index := 0#32
  let c0_358 : Index := 0#32
  ![v447.toNat, 0, 0]
def k0_cond14 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_327 : BitVec 32 := 1#32
  let v403 : BitVec 32 := Scalar.subi arg22 c1_i32_327
  let c15_i32_331 : BitVec 32 := 15#32
  let v408 : BitVec 1 := Scalar.cmpi .sge v403 c15_i32_331
  let v409 : BitVec 32 := Scalar.extui v408
  let c0_i32_332 : BitVec 32 := 0#32
  let v410 : BitVec 1 := Scalar.cmpi .ne v409 c0_i32_332
  v410

def k0_off32 (k0_t2 : Fin k0_t2_loop.trips) : Fin 3 → Nat :=
  let c1_i32_58 : BitVec 32 := 1#32
  let c1_i32_59 : BitVec 32 := 1#32
  let arg22 : BitVec 32 := Scf.iv c1_i32_58 c1_i32_59 k0_t2
  let c1_i32_327 : BitVec 32 := 1#32
  let v403 : BitVec 32 := Scalar.subi arg22 c1_i32_327
  let c2_i32_328 : BitVec 32 := 2#32
  let v404 : BitVec 32 := Scalar.remsi v403 c2_i32_328
  let v438 : Index := Scalar.indexCast v404
  let c0_351 : Index := 0#32
  let c0_352 : Index := 0#32
  ![v438.toNat, 0, 0]
def k0_off33 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_354 : BitVec 32 := 4294967295#32
  let c1_i32_58 : BitVec 32 := 1#32
  let c1_i32_59 : BitVec 32 := 1#32
  let arg22 : BitVec 32 := Scf.iv c1_i32_58 c1_i32_59 k0_t2
  let c1_i32_327 : BitVec 32 := 1#32
  let v403 : BitVec 32 := Scalar.subi arg22 c1_i32_327
  let c15_i32_353 : BitVec 32 := 15#32
  let v441 : BitVec 32 := Scalar.subi v403 c15_i32_353
  let v442 : BitVec 32 := Scalar.muli c_m1_i32_354 v441
  let v443 : BitVec 32 := Scalar.subi v2 v442
  let c64_i32_355 : BitVec 32 := 64#32
  let v444 : BitVec 32 := Scalar.addi v443 c64_i32_355
  let c16_i32_356 : BitVec 32 := 16#32
  let v445 : BitVec 32 := Scalar.remsi v444 c16_i32_356
  let c256_i32_357 : BitVec 32 := 256#32
  let v446 : BitVec 32 := Scalar.muli v445 c256_i32_357
  let v447 : Index := Scalar.indexCast v446
  let c1536_358 : Index := 1536#32
  ![v447.toNat, 1536]
def k0_cond15 (k0_t2 : Fin k0_t2_loop.trips) : BitVec 1 :=
  let c1_i32_58 : BitVec 32 := 1#32
  let c1_i32_59 : BitVec 32 := 1#32
  let arg22 : BitVec 32 := Scf.iv c1_i32_58 c1_i32_59 k0_t2
  let c1_i32_327 : BitVec 32 := 1#32
  let v403 : BitVec 32 := Scalar.subi arg22 c1_i32_327
  let c27_i32_333 : BitVec 32 := 27#32
  let v411 : BitVec 1 := Scalar.cmpi .sle v403 c27_i32_333
  let v412 : BitVec 32 := Scalar.extui v411
  let c0_i32_334 : BitVec 32 := 0#32
  let v413 : BitVec 1 := Scalar.cmpi .ne v412 c0_i32_334
  v413

def k0_dev13 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_352 : BitVec 32 := 1#32
  let v438 : BitVec 32 := Scalar.muli v7 c1_i32_352
  let v439 : BitVec 32 := Scalar.addi c0_i32_353 v438
  v439.toNat
def k0_off34 (d0 : Dev nD) (k0_t2 : Fin k0_t2_loop.trips) : Fin 2 → Nat :=
  let c1_i32_58 : BitVec 32 := 1#32
  let c1_i32_59 : BitVec 32 := 1#32
  let arg22 : BitVec 32 := Scf.iv c1_i32_58 c1_i32_59 k0_t2
  let c15_i32_338 : BitVec 32 := 15#32
  let v418 : BitVec 1 := Scalar.cmpi .slt arg22 c15_i32_338
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_339 : BitVec 32 := 4294967295#32
  let v419 : BitVec 32 := Scalar.muli c_m1_i32_339 arg22
  let v420 : BitVec 32 := Scalar.subi v2 v419
  let c_m1_i32_342 : BitVec 32 := 4294967295#32
  let c1_i32_341 : BitVec 32 := 1#32
  let c15_i32_340 : BitVec 32 := 15#32
  let v421 : BitVec 32 := Scalar.subi arg22 c15_i32_340
  let v422 : BitVec 32 := Scalar.subi c1_i32_341 v421
  let v423 : BitVec 32 := Scalar.muli c_m1_i32_342 v422
  let v424 : BitVec 32 := Scalar.addi v2 v423
  let v425 : BitVec 32 := Scalar.select v418 v420 v424
  let c64_i32_343 : BitVec 32 := 64#32
  let v426 : BitVec 32 := Scalar.addi v425 c64_i32_343
  let c16_i32_344 : BitVec 32 := 16#32
  let v427 : BitVec 32 := Scalar.remsi v426 c16_i32_344
  let c256_i32_345 : BitVec 32 := 256#32
  let v428 : BitVec 32 := Scalar.muli v427 c256_i32_345
  let c1536_i32_350 : BitVec 32 := 1536#32
  ![v428.toNat, 1536]
def k0_dev14 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_346 : BitVec 32 := 1#32
  let v429 : BitVec 32 := Scalar.muli v5 c1_i32_346
  let v430 : BitVec 32 := Scalar.addi c0_i32_347 v429
  v430.toNat
def k0_off35 (d0 : Dev nD) : Fin 2 → Nat :=
  let v_false : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c29_i32_61 : BitVec 32 := 29#32
  let v70 : BitVec 32 := Scalar.subi v2 c29_i32_61
  let c_m13_i32 : BitVec 32 := 4294967283#32
  let v71 : BitVec 32 := Scalar.addi v2 c_m13_i32
  let v72 : BitVec 32 := Scalar.select v_false v70 v71
  let c64_i32_62 : BitVec 32 := 64#32
  let v73 : BitVec 32 := Scalar.addi v72 c64_i32_62
  let c16_i32_63 : BitVec 32 := 16#32
  let v74 : BitVec 32 := Scalar.remsi v73 c16_i32_63
  let c256_i32_64 : BitVec 32 := 256#32
  let v75 : BitVec 32 := Scalar.muli v74 c256_i32_64
  let c0_i32_69 : BitVec 32 := 0#32
  ![v75.toNat, 0]
def k0_off36 : Fin 3 → Nat :=
  let c29_i32_80 : BitVec 32 := 29#32
  let c2_i32_81 : BitVec 32 := 2#32
  let v88 : BitVec 32 := Scalar.remsi c29_i32_80 c2_i32_81
  let v89 : Index := Scalar.indexCast v88
  let c0_82 : Index := 0#32
  let c0_83 : Index := 0#32
  ![v89.toNat, 0, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v92 : BitVec 32 := Scalar.subi v2 c14_i32
  let c64_i32_84 : BitVec 32 := 64#32
  let v93 : BitVec 32 := Scalar.addi v92 c64_i32_84
  let c16_i32_85 : BitVec 32 := 16#32
  let v94 : BitVec 32 := Scalar.remsi v93 c16_i32_85
  let c256_i32_86 : BitVec 32 := 256#32
  let v95 : BitVec 32 := Scalar.muli v94 c256_i32_86
  let v96 : Index := Scalar.indexCast v95
  let c0_87 : Index := 0#32
  ![v96.toNat, 0]
def k0_off38 (d0 : Dev nD) : Fin 2 → Nat :=
  let false_90 : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c29_i32_88 : BitVec 32 := 29#32
  let v100 : BitVec 32 := Scalar.subi v2 c29_i32_88
  let c_m13_i32_89 : BitVec 32 := 4294967283#32
  let v101 : BitVec 32 := Scalar.addi v2 c_m13_i32_89
  let v102 : BitVec 32 := Scalar.select false_90 v100 v101
  let c64_i32_91 : BitVec 32 := 64#32
  let v103 : BitVec 32 := Scalar.addi v102 c64_i32_91
  let c16_i32_92 : BitVec 32 := 16#32
  let v104 : BitVec 32 := Scalar.remsi v103 c16_i32_92
  let c256_i32_93 : BitVec 32 := 256#32
  let v105 : BitVec 32 := Scalar.muli v104 c256_i32_93
  let c512_i32_98 : BitVec 32 := 512#32
  ![v105.toNat, 512]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_113 : BitVec 32 := 14#32
  let v122 : BitVec 32 := Scalar.subi v2 c14_i32_113
  let c64_i32_114 : BitVec 32 := 64#32
  let v123 : BitVec 32 := Scalar.addi v122 c64_i32_114
  let c16_i32_115 : BitVec 32 := 16#32
  let v124 : BitVec 32 := Scalar.remsi v123 c16_i32_115
  let c256_i32_116 : BitVec 32 := 256#32
  let v125 : BitVec 32 := Scalar.muli v124 c256_i32_116
  let v126 : Index := Scalar.indexCast v125
  let c512 : Index := 512#32
  ![v126.toNat, 512]
def k0_off40 (d0 : Dev nD) : Fin 2 → Nat :=
  let false_117 : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m29_i32 : BitVec 32 := 4294967267#32
  let v130 : BitVec 32 := Scalar.subi v2 c_m29_i32
  let c13_i32 : BitVec 32 := 13#32
  let v131 : BitVec 32 := Scalar.addi v2 c13_i32
  let v132 : BitVec 32 := Scalar.select false_117 v130 v131
  let c64_i32_118 : BitVec 32 := 64#32
  let v133 : BitVec 32 := Scalar.addi v132 c64_i32_118
  let c16_i32_119 : BitVec 32 := 16#32
  let v134 : BitVec 32 := Scalar.remsi v133 c16_i32_119
  let c256_i32_120 : BitVec 32 := 256#32
  let v135 : BitVec 32 := Scalar.muli v134 c256_i32_120
  let c1024_i32_125 : BitVec 32 := 1024#32
  ![v135.toNat, 1024]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m14_i32 : BitVec 32 := 4294967282#32
  let v152 : BitVec 32 := Scalar.subi v2 c_m14_i32
  let c64_i32_140 : BitVec 32 := 64#32
  let v153 : BitVec 32 := Scalar.addi v152 c64_i32_140
  let c16_i32_141 : BitVec 32 := 16#32
  let v154 : BitVec 32 := Scalar.remsi v153 c16_i32_141
  let c256_i32_142 : BitVec 32 := 256#32
  let v155 : BitVec 32 := Scalar.muli v154 c256_i32_142
  let v156 : Index := Scalar.indexCast v155
  let c1024 : Index := 1024#32
  ![v156.toNat, 1024]
def k0_off42 (d0 : Dev nD) : Fin 2 → Nat :=
  let false_145 : BitVec 1 := 0#1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m29_i32_143 : BitVec 32 := 4294967267#32
  let v160 : BitVec 32 := Scalar.subi v2 c_m29_i32_143
  let c13_i32_144 : BitVec 32 := 13#32
  let v161 : BitVec 32 := Scalar.addi v2 c13_i32_144
  let v162 : BitVec 32 := Scalar.select false_145 v160 v161
  let c64_i32_146 : BitVec 32 := 64#32
  let v163 : BitVec 32 := Scalar.addi v162 c64_i32_146
  let c16_i32_147 : BitVec 32 := 16#32
  let v164 : BitVec 32 := Scalar.remsi v163 c16_i32_147
  let c256_i32_148 : BitVec 32 := 256#32
  let v165 : BitVec 32 := Scalar.muli v164 c256_i32_148
  let c1536_i32_153 : BitVec 32 := 1536#32
  ![v165.toNat, 1536]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m14_i32_168 : BitVec 32 := 4294967282#32
  let v182 : BitVec 32 := Scalar.subi v2 c_m14_i32_168
  let c64_i32_169 : BitVec 32 := 64#32
  let v183 : BitVec 32 := Scalar.addi v182 c64_i32_169
  let c16_i32_170 : BitVec 32 := 16#32
  let v184 : BitVec 32 := Scalar.remsi v183 c16_i32_170
  let c256_i32_171 : BitVec 32 := 256#32
  let v185 : BitVec 32 := Scalar.muli v184 c256_i32_171
  let v186 : Index := Scalar.indexCast v185
  let c1536 : Index := 1536#32
  ![v186.toNat, 1536]
@[reducible] def k0_t3_loop : Scf.Loop 32 :=
  let c0_i32_174 : BitVec 32 := 0#32
  let c16_i32_175 : BitVec 32 := 16#32
  let v193 : BitVec 32 := Scalar.addi c0_i32_174 c16_i32_175
  let c1_i32_176 : BitVec 32 := 1#32
  ⟨c0_i32_174, v193, c1_i32_176⟩
def k0_off44 (k0_t3 : Fin k0_t3_loop.trips) : Fin 2 → Nat :=
  let c0_i32_174 : BitVec 32 := 0#32
  let c1_i32_176 : BitVec 32 := 1#32
  let arg22 : BitVec 32 := Scf.iv c0_i32_174 c1_i32_176 k0_t3
  let c256_i32_178 : BitVec 32 := 256#32
  let v194 : BitVec 32 := Scalar.muli arg22 c256_i32_178
  let v195 : Index := Scalar.indexCast v194
  let c0_179 : Index := 0#32
  ![v195.toNat, 0]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.lean ====
/-
# `Ring`: the four rings of the kernel, their memory and what it holds

The kernel keeps a 4096 x 2048 accumulator per device and runs four rings over its four column bands of 512
columns. Band 0 and 1 travel to the next device, band 2 and 3 to the previous one. Each ring makes 30 hops: hop `h`
sends the 256 x 512 block `chunk r c h` of the band and writes block `chunk r c (h + 1)` from what lands: by addition for
the first 15 hops, by replacement after. This module names the devices, blocks, slots and semaphores of one ring as
functions of the ring, and states the accumulator's contents after each hop (`acc`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Ring

open Cert.KernelIdeal Cert.KernelIdeal.Gen
open Idealize.ShloMosaic
open Idealize.ShloMosaic.TcCoe

variable {F : FTy → Type} [FloatOps F]

/-! ## Devices -/

/-- The device `k` places after `c` on the ring of sixteen. -/
def shift (c : Dev nD) (k : ℕ) : Dev nD := ⟨(c.val + k) % 16, Nat.mod_lt _ (by decide)⟩

/-- The device ring `r` of device `c` sends to: the next one for the first two rings, the previous one for the others. -/
def tgt (r : Fin 4) (c : Dev nD) : Dev nD := if r.val < 2 then shift c 1 else shift c 15
/-- The device ring `r` of device `c` receives from. -/
def org (r : Fin 4) (c : Dev nD) : Dev nD := if r.val < 2 then shift c 15 else shift c 1
/-- The row block device `c` sends at hop `h` of ring `r`. -/
def chunk (r : Fin 4) (c : Dev nD) (h : ℕ) : Fin 16 :=
  if r.val < 2 then ⟨(c.val + 16 * h - h) % 16, Nat.mod_lt _ (by decide)⟩ else ⟨(c.val + h) % 16, Nat.mod_lt _ (by decide)⟩

theorem tgt_org (r : Fin 4) (c : Dev nD) : tgt r (org r c) = c := by revert r c; decide
theorem org_tgt (r : Fin 4) (c : Dev nD) : org r (tgt r c) = c := by revert r c; decide
/-- Sending is a bijection of the devices. -/
def ringEquiv (r : Fin 4) : Dev nD ≃ Dev nD := ⟨tgt r, org r, org_tgt r, tgt_org r⟩

/-- The block that lands at `c` at hop `h` is the one `c` writes at that hop. -/
theorem chunk_org (r : Fin 4) (c : Dev nD) (h : ℕ) : chunk r (org r c) h = chunk r c (h + 1) := by
  unfold chunk org shift
  by_cases hr : r.val < 2
  · simp only [hr, if_true]; refine Fin.ext ?_; simp only; omega
  · simp only [hr, if_false]; refine Fin.ext ?_; simp only; omega

/-! ## Memory -/

/-- The accumulator. -/
abbrev accM : Memref sig .tc .vmem S4096x2048 .bf16 := Memref.whole cc0_scratch0
/-- Ring `r`'s landing buffer of two slots. -/
abbrev commM : Fin 4 → Memref sig .tc .vmem S2x256x512 .bf16
  | 0 => Memref.whole cc0_scratch1
  | 1 => Memref.whole cc0_scratch5
  | 2 => Memref.whole cc0_scratch9
  | 3 => Memref.whole cc0_scratch13

/-- The offset of row block `p` of ring `r`'s column band. -/
def blkOff (r : Fin 4) (p : Fin 16) : Fin 2 → ℕ := ![256 * p.val, 512 * r.val]

theorem blkOff_inb (r : Fin 4) (p : Fin 16) : ∀ a, blkOff r p a + S256x512.size a ≤ S4096x2048.size a := by
  intro a
  fin_cases a
  · show 256 * p.val + 256 ≤ 4096; omega
  · show 512 * r.val + 512 ≤ 2048; omega

/-- Row block `p` of ring `r`'s column band. -/
abbrev blk (r : Fin 4) (p : Fin 16) : View sig .tc .vmem S256x512 .bf16 :=
  (accM.slice (Rect.unit (s := S4096x2048) (blkOff r p) S256x512.size (blkOff_inb r p)) (fun _ => rfl)).view

/-- The offset of slot `s` of a landing buffer. -/
def slotOff (s : ℕ) : Fin 3 → ℕ := ![s, 0, 0]

theorem slotOff_inb (s : Fin 2) : ∀ a, slotOff s.val a + S1x256x512.size a ≤ S2x256x512.size a := by
  intro a
  fin_cases a
  · show s.val + 1 ≤ 2; omega
  · show 0 + 256 ≤ 256; omega
  · show 0 + 512 ≤ 512; omega

/-- Slot `s` of ring `r`'s landing buffer, -/
abbrev slotV (r : Fin 4) (s : Fin 2) : View sig .tc .vmem S1x256x512 .bf16 :=
  ((commM r).slice (Rect.unit (s := S2x256x512) (slotOff s.val) S1x256x512.size (slotOff_inb s)) (fun _ => rfl)).view
/-- and the same slot without its axis of one, as a transfer names it. -/
abbrev slotM (r : Fin 4) (s : Fin 2) : Memref sig .tc .vmem S256x512 .bf16 :=
  ((commM r).slice (Rect.unit (s := S2x256x512) (slotOff s.val) S1x256x512.size (slotOff_inb s)) (fun _ => rfl)).squeeze S256x512 squeezes_S1x256x512_S256x512

/-- The slot of hop `h`. -/
def par (h : ℕ) : Fin 2 := ⟨h % 2, Nat.mod_lt _ (by decide)⟩

/-! ## Semaphores -/

/-- The semaphores of the protocol: the barrier (`none`), and per ring two send semaphores (0, 1), two receive
    semaphores (2, 3), one per slot, and the credit semaphore (4). -/
abbrev CK : Type := Option (Fin 4 × Fin 5)

/-- The semaphore of a kind. -/
def csem : CK → SemLoc sig
  | none => .reg (4 : Fin 5)
  | some (r, k) => if k.val < 4 then .dma (⟨(5 + 4 * r.val + k.val) % 21, Nat.mod_lt _ (by decide)⟩ : Fin 21)
      else .reg (⟨r.val, by omega⟩ : Fin 5)

theorem csem_inj : Function.Injective csem := by decide

/-- The send semaphore of a slot, -/
abbrev sndK (r : Fin 4) (s : Fin 2) : CK := some (r, ⟨s.val, by omega⟩)
/-- its receive semaphore, -/
abbrev rcvK (r : Fin 4) (s : Fin 2) : CK := some (r, ⟨s.val + 2, by omega⟩)
/-- and the ring's credit semaphore. -/
abbrev crdK (r : Fin 4) : CK := some (r, 4)

/-- The cell of a kind on a device. -/
abbrev kcell (c : Dev nD) (k : CK) : GSem nD τ sig := ((c : Thread nD τ), csem k)

theorem kcell_inj {c c' : Dev nD} {k k' : CK} (h : kcell c k = kcell c' k') : c = c' ∧ k = k' := by
  have h1 := congrArg (fun g : GSem nD τ sig => g.1.1) h
  have h2 := congrArg (fun g : GSem nD τ sig => g.2) h
  exact ⟨h1, csem_inj h2⟩

/-- The units one block's transfer adds to its semaphores. -/
def N : ℕ := (slotM 0 0).view.dmaCredit
theorem N_pos : 0 < N := View.dmaCredit_pos _ (by decide)

theorem slotM_credit (r : Fin 4) (s : Fin 2) : (slotM r s).view.dmaCredit = N := by
  fin_cases r <;> rfl
theorem blk_credit (r : Fin 4) (p : Fin 16) : (blk r p).dmaCredit = N := rfl

/-! ## Contents -/

/-- The accumulator's contents. -/
abbrev Acc (F : FTy → Type) : Type := cc0_scratch0.ty.Contents (Elt F)

/-- A 256 x 512 block with an axis of one in front: how a slot holding it reads. -/
def lift (X : Vec F S256x512 .bf16) : Vec F S1x256x512 .bf16 :=
  fun i => X ((Shape.reshapeEquiv (squeezes_S1x256x512_S256x512).numel_eq).symm i)

/-- A slot into which the block `X` was written reads as `X` with the axis of one. -/
theorem slot_read_write (r : Fin 4) (s : Fin 2) (f : (commM r).view.ref.ty.Contents (Elt F)) (X : Vec F S256x512 .bf16) :
    (slotV r s).read (Elt F) ((slotM r s).view.write (Elt F) f X Finset.univ) = lift X := by
  funext i
  have h := congrFun ((slotM r s).view.read_write_univ (Val := Elt F) f X)
    ((Shape.reshapeEquiv (squeezes_S1x256x512_S256x512).numel_eq).symm i)
  rw [View.read_apply] at h ⊢
  have he : (slotM r s).view.emb ((Shape.reshapeEquiv (squeezes_S1x256x512_S256x512).numel_eq).symm i) = (slotV r s).emb i := by
    show (slotV r s).emb (Shape.reshapeEquiv _ ((Shape.reshapeEquiv _).symm i)) = _
    rw [Equiv.apply_symm_apply]
  rw [he] at h
  exact h

/-- The staged block of `x`. -/
abbrev xM : Memref sig .tc .vmem S4096x256 .fp8e4m3 := Memref.whole cc0_stg0_0

/-- The offset of row block `p` of a 4096-row buffer. -/
def rowOff (p : ℕ) : Fin 2 → ℕ := ![256 * p, 0]
theorem rowOff_inb_x (p : Fin 16) : ∀ a, rowOff p.val a + S256x256.size a ≤ S4096x256.size a := by
  intro a
  fin_cases a
  · show 256 * p.val + 256 ≤ 4096; omega
  · show 0 + 256 ≤ 256; omega
theorem rowOff_inb (p : Fin 16) : ∀ a, rowOff p.val a + S256x2048.size a ≤ S4096x2048.size a := by
  intro a
  fin_cases a
  · show 256 * p.val + 256 ≤ 4096; omega
  · show 0 + 2048 ≤ 2048; omega

/-- Row block `p` of a 4096 x 256 array. -/
def xRows (x : Vec F S4096x256 .fp8e4m3) (p : Fin 16) : Vec F S256x256 .fp8e4m3 :=
  (xM.access (Rect.unit (s := S4096x256) (rowOff p.val) S256x256.size (rowOff_inb_x p))).read (Elt F) x

/-- The row block of an index, and the index inside its row block. -/
def rowBlk (i : S4096x2048.Idx) : Fin 16 := ⟨(i 0).val / 256, by have : (i 0).val < 4096 := (i 0).isLt; omega⟩
def rowIn (i : S4096x2048.Idx) : S256x2048.Idx := fun a => match a with
  | 0 => ⟨(i 0).val % 256, Nat.mod_lt _ (by decide)⟩
  | 1 => ⟨(i 1).val, (i 1).isLt⟩

section
variable (x : Dev nD → Vec F S4096x256 .fp8e4m3) (w : Dev nD → Vec F S256x2048 .fp8e4m3)

/-- The accumulator after the products: row block `p` is the product of row block `p` of `x` with `w`. -/
def gemm (c : Dev nD) : Acc F := fun i => k0_pay10 (w c) (xRows (x c) (rowBlk i)) (rowIn i)

/-- What hop `h` writes: the block read plus the block landed, or the block landed. -/
def mix (h : ℕ) (u X : Vec F S256x512 .bf16) : Vec F S256x512 .bf16 :=
  if h < 15 then k0_pay2 u (lift X) else k0_pay3 (lift X)

/-- Device `c`'s accumulator as ring `r` sees it after `h` hops. -/
def acc (r : Fin 4) : ℕ → Dev nD → Acc F
  | 0, c => gemm x w c
  | h + 1, c => (blk r (chunk r c (h + 1))).write (Elt F) (acc r h c)
      (mix h ((blk r (chunk r c (h + 1))).read (Elt F) (acc r h c))
        ((blk r (chunk r c (h + 1))).read (Elt F) (acc r h (org r c)))) Finset.univ

/-- The block that lands at `c` at hop `h`. -/
def landed (r : Fin 4) (h : ℕ) (c : Dev nD) : Vec F S256x512 .bf16 :=
  (blk r (chunk r c (h + 1))).read (Elt F) (acc x w r h (org r c))

theorem acc_succ (r : Fin 4) (h : ℕ) (c : Dev nD) :
    acc x w r (h + 1) c = (blk r (chunk r c (h + 1))).write (Elt F) (acc x w r h c)
      (mix h ((blk r (chunk r c (h + 1))).read (Elt F) (acc x w r h c)) (landed x w r h c)) Finset.univ := rfl

/-- The block `c` sends at hop `h` is the one that lands at the next device. -/
theorem landed_tgt (r : Fin 4) (h : ℕ) (c : Dev nD) :
    landed x w r h (tgt r c) = (blk r (chunk r c h)).read (Elt F) (acc x w r h c) := by
  unfold landed; rw [← chunk_org, org_tgt]

/-- The accumulator at the end: each band as its own ring left it. -/
def accEnd (c : Dev nD) : Acc F := fun i => acc x w ⟨(i 1).val / 512, by have : (i 1).val < 2048 := (i 1).isLt; omega⟩ 30 c i

end

end Cert.Ring

end
-- ==== Proof.Cells.lean ====
/-
# `Cells`: the protocol of the four rings

The cells are the semaphores of the sixteen devices. A send cell returns the sent block to its sender, a receive cell
hands the landed slot to the receiver, a credit cell tells a sender that the next device has finished a hop, and the barrier
tells a device that its neighbours' slots are open. A landing slot is lent out by its device: the device releases it
before the barrier and after each hop, and a sender takes it for one write with a token of that write and the knowledge of
the release.
-/
module

public import proofs.«01_k».proof.Proof.Ring

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra: the pipeline's copy, the rounds of the cells, the lending of the slots -/

/-- A landing slot: its device, ring and slot number. -/
abbrev Key : Type := Dev nD × Fin 4 × Fin 2
abbrev UB : Type := URounds (GSem nD τ sig) ℕ × USlots Key
abbrev UU : Type := UR sig nD τ × UB

local notation "𝕄" => MT nD τ sig ℕ (Elt F) ℕ UU ℕ

abbrev EP : Emb (UR sig nD τ) (MT nD τ sig ℕ (Elt F) ℕ UU ℕ) := embL
abbrev EB : Emb UB (MT nD τ sig ℕ (Elt F) ℕ UU ℕ) := embR
/-- The rounds' component, -/
abbrev ER : Emb (URounds (GSem nD τ sig) ℕ) (MT nD τ sig ℕ (Elt F) ℕ UU ℕ) :=
  (Emb.inl : Emb (URounds (GSem nD τ sig) ℕ) UB).trans EB
/-- and the slots'. -/
abbrev EK : Emb (USlots Key) (MT nD τ sig ℕ (Elt F) ℕ UU ℕ) :=
  (Emb.inr : Emb (USlots Key) UB).trans EB

/-! ## Points-tos and knowledge -/

/-- A part `I` of `c`'s accumulator at contents `f`. -/
def accPts (c : Dev nD) (I : Finset (accM.view.ty.Idx)) (f : Acc F) : sProp 𝕄 :=
  accM.view.loc (c : Thread nD τ) ↦[I]{fullShare} f

/-- Slot `s` of ring `r` on `c`, reading as `X`, -/
def slotPts (r : Fin 4) (s : Fin 2) (c : Dev nD) (X : Vec F S1x256x512 .bf16) : sProp 𝕄 :=
  iprop(∃ f, ⌜(slotV r s).read (Elt F) f = X⌝ ∗ ((slotV r s).loc (c : Thread nD τ) ↦[(slotV r s).set]{fullShare} f))
/-- and at any contents. -/
def slotAny (k : Key) : sProp 𝕄 := slot ((slotV k.2.1 k.2.2).loc (k.1 : Thread nD τ)) (slotV k.2.1 k.2.2).set

/-- The slot of hop `h` on `c` is released for that hop, and the landings before it were waited for. -/
def Rl (c : Dev nD) (r : Fin 4) (h : ℕ) : sProp 𝕄 :=
  iprop(released EK (c, r, par h) (h / 2 + 1) ∗ reached ER (kcell c (rcvK r (par h))) (h / 2))
/-- Device `c` has finished `n` hops of ring `r`: its slots are open for the next two. -/
def Rel (c : Dev nD) (r : Fin 4) (n : ℕ) : sProp 𝕄 := iprop(Rl c r n ∗ Rl c r (n + 1))

instance Rl_persistent (c : Dev nD) (r : Fin 4) (n : ℕ) : BI.Persistent (Rl c r n : sProp 𝕄) := by unfold Rl; infer_instance
instance Rl_storable (c : Dev nD) (r : Fin 4) (n : ℕ) : BI.Storable (upEmb : UEmb _ 𝕄) (Rl c r n) := by unfold Rl; infer_instance
instance Rel_persistent (c : Dev nD) (r : Fin 4) (n : ℕ) : BI.Persistent (Rel c r n : sProp 𝕄) := by unfold Rel; infer_instance
instance Rel_storable (c : Dev nD) (r : Fin 4) (n : ℕ) : BI.Storable (upEmb : UEmb _ 𝕄) (Rel c r n) := by unfold Rel; infer_instance
instance accPts_storable (c : Dev nD) (I) (f : Acc F) : BI.Storable (upEmb : UEmb _ 𝕄) (accPts c I f) := by unfold accPts; infer_instance
instance slotPts_storable (r : Fin 4) (s : Fin 2) (c : Dev nD) (X : Vec F S1x256x512 .bf16) : BI.Storable (upEmb : UEmb _ 𝕄) (slotPts r s c X) := by
  unfold slotPts; infer_instance
instance slotAny_storable (k : Key) : BI.Storable (upEmb : UEmb _ 𝕄) (slotAny (F := F) k) := by unfold slotAny; infer_instance

/-- The slot of a hop is the slot of the hop two later. -/
theorem par_congr {h h' : ℕ} (he : h' % 2 = h % 2) : par h' = par h := Fin.ext he

/-- Knowing of a hop is knowing of an earlier one in the same slot. -/
theorem Rl_mono (c : Dev nD) (r : Fin 4) {h h' : ℕ} (he : h' % 2 = h % 2) (hl : h' ≤ h) : Rl c r h ⊢ (Rl c r h' : sProp 𝕄) := by
  unfold Rl
  rw [par_congr he]
  exact BIClass.sep_mono (released_mono EK (by omega)) (reached_mono ER (by omega))

/-- Knowing of more hops is knowing of fewer. -/
theorem Rel_mono (c : Dev nD) (r : Fin 4) {n n' : ℕ} (h : n' ≤ n) : Rel c r n ⊢ (Rel c r n' : sProp 𝕄) := by
  unfold Rel
  by_cases he : n' % 2 = n % 2
  · exact BIClass.sep_mono (Rl_mono c r he h) (Rl_mono c r (by omega) (by omega))
  · exact Laws.sep_comm.1.trans (BIClass.sep_mono (Rl_mono c r (by omega) (by omega)) (Rl_mono c r (by omega) (by omega)))

/-- A slot is exclusive. -/
theorem slotAny_false (k : Key) : iprop(slotAny k ∗ slotAny k) ⊢ (False : sProp 𝕄) := by
  unfold slotAny
  refine slot_slot_false ?_
  rw [← Finset.card_pos, View.card_set]
  decide

theorem slotPts_any (r : Fin 4) (s : Fin 2) (c : Dev nD) (X : Vec F S1x256x512 .bf16) : slotPts r s c X ⊢ (slotAny (c, r, s) : sProp 𝕄) := by
  unfold slotPts slotAny slot
  iintro ⟨%f, -, H⟩
  iexists f; iexact H

section
variable (x : Dev nD → Vec F S4096x256 .fp8e4m3) (w : Dev nD → Vec F S256x2048 .fp8e4m3)

/-- The block `c` sends at hop `h`, as it sends it. -/
def blkPts (r : Fin 4) (h : ℕ) (c : Dev nD) : sProp 𝕄 := accPts c (blk r (chunk r c h)).set (acc x w r h c)
/-- The slot of hop `h` at `c` holding what landed. -/
def landPts (r : Fin 4) (h : ℕ) (c : Dev nD) : sProp 𝕄 := slotPts r (par h) c (lift (landed x w r h c))

instance blkPts_storable (r : Fin 4) (h : ℕ) (c : Dev nD) : BI.Storable (upEmb : UEmb _ 𝕄) (blkPts x w r h c) := by unfold blkPts; infer_instance
instance landPts_storable (r : Fin 4) (h : ℕ) (c : Dev nD) : BI.Storable (upEmb : UEmb _ 𝕄) (landPts x w r h c) := by unfold landPts; infer_instance

/-! ## The schedule -/

/-- The kind of a cell of a TensorCore. -/
def dec (g : GSem nD τ sig) : Option (Dev nD × CK) := Function.partialInv (fun p : Dev nD × CK => kcell p.1 p.2) g
theorem dec_kcell (c : Dev nD) (k : CK) : dec (kcell c k) = some (c, k) :=
  Function.partialInv_left (f := fun p : Dev nD × CK => kcell p.1 p.2) (fun p p' h => Prod.ext (kcell_inj h).1 (kcell_inj h).2) (c, k)

/-- The duties of a round of a cell: the two neighbours' signals; one transfer per hop; one credit per hop but the last two. -/
def dutiesK (k : CK) (rd : ℕ) : Finset ℕ := match k with
  | none => if rd = 0 then {0, 1} else ∅
  | some (_, j) => if j.val < 4 then (if rd < 15 then {0} else ∅) else if rd = 0 then Finset.range 28 else ∅
/-- The units a duty adds. -/
def amountK (k : CK) : ℕ := match k with
  | none => 1
  | some (_, j) => if j.val < 4 then N else 1
/-- What a duty hands over. -/
def payK (c : Dev nD) (k : CK) (rd d : ℕ) : sProp 𝕄 := match k with
  | none => if d = 0 then iprop(Rel (shift c 1) 0 0 ∗ Rel (shift c 1) 1 0) else iprop(Rel (shift c 15) 2 0 ∗ Rel (shift c 15) 3 0)
  | some (r, j) => if j.val < 2 then blkPts x w r (2 * rd + j.val % 2) c else if j.val < 4 then landPts x w r (2 * rd + j.val % 2) c
      else Rel (tgt r c) r (d + 1)

theorem amountK_pos (k : CK) : 0 < amountK k := by
  unfold amountK
  split
  · exact Nat.one_pos
  · split
    · exact N_pos
    · exact Nat.one_pos

instance payK_storable (c : Dev nD) (k : CK) (rd d : ℕ) : BI.Storable (upEmb : UEmb _ 𝕄) (payK x w c k rd d) := by
  unfold payK
  (repeat' split) <;> infer_instance

/-- The schedule of the rings. -/
def Rd : Rounds.Schedule (GSem nD τ sig) ℕ 𝕄 where
  duties g rd := match dec g with | some (_, k) => dutiesK k rd | none => ∅
  unitless _ := False
  amount g _ _ := match dec g with | some (_, k) => amountK k | none => 1
  payload g rd d := match dec g with | some (c, k) => payK x w c k rd d | none => iprop(emp)
  amount_pos g _ _ _ := by
    split
    · exact amountK_pos _
    · exact Nat.one_pos

instance Rd_storable (g : GSem nD τ sig) (rd d : ℕ) : BI.Storable (upEmb : UEmb _ 𝕄) ((Rd x w).payload g rd d) := by
  show BI.Storable upEmb (match dec g with | some (c, k) => payK x w c k rd d | none => iprop(emp))
  split <;> infer_instance

theorem duties_k (c : Dev nD) (k : CK) (rd : ℕ) : (Rd x w).duties (kcell c k) rd = dutiesK k rd := by
  simp only [Rd, dec_kcell]
theorem amount_k (c : Dev nD) (k : CK) (rd d : ℕ) : (Rd x w).amount (kcell c k) rd d = amountK k := by
  simp only [Rd, dec_kcell]
theorem payload_k (c : Dev nD) (k : CK) (rd d : ℕ) : (Rd x w).payload (kcell c k) rd d = payK x w c k rd d := by
  simp only [Rd, dec_kcell]
theorem expect_k (c : Dev nD) (k : CK) (rd : ℕ) : (Rd x w).expect (kcell c k) rd = (dutiesK k rd).card * amountK k := by
  unfold Schedule.expect Schedule.amountOf
  rw [duties_k, Finset.sum_congr rfl fun d _ => amount_k x w c k rd d, Finset.sum_const, smul_eq_mul]

theorem duties_snd (c : Dev nD) (r : Fin 4) {h : ℕ} (hh : h < 30) : (Rd x w).duties (kcell c (sndK r (par h))) (h / 2) = {0} := by
  rw [duties_k]; have := (par h).isLt
  show (if (par h).val < 4 then (if h / 2 < 15 then {0} else ∅) else if h / 2 = 0 then Finset.range 28 else ∅) = _
  rw [if_pos (by omega), if_pos (by omega)]
theorem duties_rcv (c : Dev nD) (r : Fin 4) {h : ℕ} (hh : h < 30) : (Rd x w).duties (kcell c (rcvK r (par h))) (h / 2) = {0} := by
  rw [duties_k]; have := (par h).isLt
  show (if (par h).val + 2 < 4 then (if h / 2 < 15 then {0} else ∅) else if h / 2 = 0 then Finset.range 28 else ∅) = _
  rw [if_pos (by omega), if_pos (by omega)]
theorem duties_crd (c : Dev nD) (r : Fin 4) : (Rd x w).duties (kcell c (crdK r)) 0 = Finset.range 28 := by
  rw [duties_k]; rfl
theorem duties_bar (c : Dev nD) : (Rd x w).duties (kcell c none) 0 = {0, 1} := by
  rw [duties_k]; rfl
theorem amount_snd (c : Dev nD) (r : Fin 4) (s : Fin 2) (rd d : ℕ) : (Rd x w).amount (kcell c (sndK r s)) rd d = N := by
  rw [amount_k]; exact if_pos (show s.val < 4 by omega)
theorem amount_rcv (c : Dev nD) (r : Fin 4) (s : Fin 2) (rd d : ℕ) : (Rd x w).amount (kcell c (rcvK r s)) rd d = N := by
  rw [amount_k]; exact if_pos (show s.val + 2 < 4 by omega)
theorem amount_crd (c : Dev nD) (r : Fin 4) (rd d : ℕ) : (Rd x w).amount (kcell c (crdK r)) rd d = 1 := by
  rw [amount_k]; rfl
theorem amount_bar (c : Dev nD) (rd d : ℕ) : (Rd x w).amount (kcell c none) rd d = 1 := by
  rw [amount_k]; rfl
theorem expect_snd (c : Dev nD) (r : Fin 4) {h : ℕ} (hh : h < 30) : (Rd x w).expect (kcell c (sndK r (par h))) (h / 2) = N := by
  unfold Schedule.expect Schedule.amountOf; rw [duties_snd x w c r hh, Finset.sum_singleton, amount_snd]
theorem expect_rcv (c : Dev nD) (r : Fin 4) {h : ℕ} (hh : h < 30) : (Rd x w).expect (kcell c (rcvK r (par h))) (h / 2) = N := by
  unfold Schedule.expect Schedule.amountOf; rw [duties_rcv x w c r hh, Finset.sum_singleton, amount_rcv]
theorem expect_crd (c : Dev nD) (r : Fin 4) : (Rd x w).expect (kcell c (crdK r)) 0 = 28 := by
  rw [expect_k]; rfl
theorem expect_bar (c : Dev nD) : (Rd x w).expect (kcell c none) 0 = 2 := by
  rw [expect_k]; rfl

theorem payload_snd (c : Dev nD) (r : Fin 4) (h d : ℕ) : (Rd x w).payload (kcell c (sndK r (par h))) (h / 2) d = blkPts x w r h c := by
  rw [payload_k]; have := (par h).isLt
  show (if (par h).val < 2 then blkPts x w r (2 * (h / 2) + (par h).val % 2) c else if (par h).val < 4 then landPts x w r (2 * (h / 2) + (par h).val % 2) c
    else Rel (tgt r c) r (d + 1)) = _
  rw [if_pos (by omega), show 2 * (h / 2) + (par h).val % 2 = h by simp only [par]; omega]
theorem payload_rcv (c : Dev nD) (r : Fin 4) (h d : ℕ) : (Rd x w).payload (kcell c (rcvK r (par h))) (h / 2) d = landPts x w r h c := by
  rw [payload_k]; have := (par h).isLt
  show (if (par h).val + 2 < 2 then blkPts x w r (2 * (h / 2) + ((par h).val + 2) % 2) c else if (par h).val + 2 < 4 then landPts x w r (2 * (h / 2) + ((par h).val + 2) % 2) c
    else Rel (tgt r c) r (d + 1)) = _
  rw [if_neg (by omega), if_pos (by omega), show 2 * (h / 2) + ((par h).val + 2) % 2 = h by simp only [par]; omega]
theorem payload_crd (c : Dev nD) (r : Fin 4) (rd d : ℕ) : (Rd x w).payload (kcell c (crdK r)) rd d = Rel (tgt r c) r (d + 1) := by
  rw [payload_k]; rfl
theorem payload_bar (c : Dev nD) (rd d : ℕ) : (Rd x w).payload (kcell c none) rd d
    = if d = 0 then iprop(Rel (shift c 1) 0 0 ∗ Rel (shift c 1) 1 0) else iprop(Rel (shift c 15) 2 0 ∗ Rel (shift c 15) 3 0) := by
  rw [payload_k]; rfl

/-- Past its last round a cell has no duty. -/
theorem duties_snd_later (c : Dev nD) (r : Fin 4) (s : Fin 2) : ∀ rd, 15 ≤ rd → (Rd x w).duties (kcell c (sndK r s)) rd = ∅ := fun rd h => by
  rw [duties_k]
  show (if s.val < 4 then (if rd < 15 then {0} else ∅) else if rd = 0 then Finset.range 28 else ∅) = _
  rw [if_pos (by omega), if_neg (by omega)]
theorem duties_rcv_later (c : Dev nD) (r : Fin 4) (s : Fin 2) : ∀ rd, 15 ≤ rd → (Rd x w).duties (kcell c (rcvK r s)) rd = ∅ := fun rd h => by
  rw [duties_k]
  show (if s.val + 2 < 4 then (if rd < 15 then {0} else ∅) else if rd = 0 then Finset.range 28 else ∅) = _
  rw [if_pos (by omega), if_neg (by omega)]
theorem duties_crd_later (c : Dev nD) (r : Fin 4) : ∀ rd, 1 ≤ rd → (Rd x w).duties (kcell c (crdK r)) rd = ∅ := fun rd h => by
  rw [duties_k]; show (if (4 : ℕ) < 4 then (if rd < 15 then {0} else ∅) else if rd = 0 then Finset.range 28 else ∅) = _
  rw [if_neg (by omega), if_neg (by omega)]
theorem duties_bar_later (c : Dev nD) : ∀ rd, 1 ≤ rd → (Rd x w).duties (kcell c none) rd = ∅ := fun rd h => by
  rw [duties_k]; show (if rd = 0 then ({0, 1} : Finset ℕ) else ∅) = _
  rw [if_neg (by omega)]

end

/-! ## What a device owes, and the levels -/

/-- The least element of an interval apart. -/
theorem Ico_peel {a b : ℕ} (h : a < b) : Finset.Ico a b = insert a (Finset.Ico (a + 1) b) := by
  ext i; simp only [Finset.mem_Ico, Finset.mem_insert]; omega

/-- A summand moved to the end, from the front -/
theorem pull_first {A : Type} [AddCommMonoid A] (t v k s : A) : t + v + k + s = v + k + s + t := by
  simp only [add_assoc, add_left_comm, add_comm]
/-- and from the second place. -/
theorem pull_second {A : Type} [AddCommMonoid A] (v t k s : A) : v + (t + k) + s = v + k + s + t := by
  simp only [add_assoc, add_left_comm, add_comm]

/-- The landings of ring `r` device `c` still owes, from hop `a` on, -/
def owedV (r : Fin 4) (c : Dev nD) (a : ℕ) : CellTallies nD τ sig ℕ :=
  ∑ h ∈ Finset.Ico a 30, tallyAt (kcell (tgt r c) (rcvK r (par h))) h N
/-- and the credits. -/
def owedK (r : Fin 4) (c : Dev nD) (b : ℕ) : CellTallies nD τ sig ℕ :=
  ∑ h ∈ Finset.Ico b 28, tallyAt (kcell (org r c) (crdK r)) h 1
/-- What `c` owes once ring `r` has started `a r` hops and credited `b r`. -/
def owed (c : Dev nD) (a b : Fin 4 → ℕ) : CellTallies nD τ sig ℕ := ∑ r, (owedV r c (a r) + owedK r c (b r))

/-- Starting a hop pays its landing. -/
theorem owed_send (c : Dev nD) (a b : Fin 4 → ℕ) (r : Fin 4) (h : a r < 30) :
    owed c a b = owed c (Function.update a r (a r + 1)) b + tallyAt (kcell (tgt r c) (rcvK r (par (a r)))) (a r) N := by
  have hr : owedV r c (a r) = tallyAt (kcell (tgt r c) (rcvK r (par (a r)))) (a r) N + owedV r c (a r + 1) := by
    unfold owedV
    rw [Ico_peel h, Finset.sum_insert (by simp)]
  have ho : ∑ r' ∈ Finset.univ.erase r, (owedV r' c (a r') + owedK r' c (b r'))
      = ∑ r' ∈ Finset.univ.erase r, (owedV r' c (Function.update a r (a r + 1) r') + owedK r' c (b r')) :=
    Finset.sum_congr rfl fun r' hr' => by rw [Function.update_of_ne (Finset.ne_of_mem_erase hr')]
  unfold owed
  rw [← Finset.add_sum_erase Finset.univ _ (Finset.mem_univ r), ← Finset.add_sum_erase Finset.univ _ (Finset.mem_univ r),
    Function.update_self, ho, hr]
  exact pull_first _ _ _ _

/-- A credit pays itself. -/
theorem owed_credit (c : Dev nD) (a b : Fin 4 → ℕ) (r : Fin 4) (h : b r < 28) :
    owed c a b = owed c a (Function.update b r (b r + 1)) + tallyAt (kcell (org r c) (crdK r)) (b r) 1 := by
  have hr : owedK r c (b r) = tallyAt (kcell (org r c) (crdK r)) (b r) 1 + owedK r c (b r + 1) := by
    unfold owedK
    rw [Ico_peel h, Finset.sum_insert (by simp)]
  have ho : ∑ r' ∈ Finset.univ.erase r, (owedV r' c (a r') + owedK r' c (b r'))
      = ∑ r' ∈ Finset.univ.erase r, (owedV r' c (a r') + owedK r' c (Function.update b r (b r + 1) r')) :=
    Finset.sum_congr rfl fun r' hr' => by rw [Function.update_of_ne (Finset.ne_of_mem_erase hr')]
  unfold owed
  rw [← Finset.add_sum_erase Finset.univ _ (Finset.mem_univ r), ← Finset.add_sum_erase Finset.univ _ (Finset.mem_univ r),
    Function.update_self, ho, hr]
  exact pull_second _ _ _ _

/-- After all hops nothing is owed. -/
theorem owed_end (c : Dev nD) (a b : Fin 4 → ℕ) (ha : ∀ r, 30 ≤ a r) (hb : ∀ r, 28 ≤ b r) : owed c a b = 0 := by
  unfold owed owedV owedK
  exact Finset.sum_eq_zero fun r _ => by
    rw [Finset.Ico_eq_empty (by have := ha r; omega), Finset.Ico_eq_empty (by have := hb r; omega), Finset.sum_empty, Finset.sum_empty, add_zero]

/-- What is owed is a landing at a hop not started or a credit of a hop not credited. -/
theorem owed_pos {c : Dev nD} {a b : Fin 4 → ℕ} {g : GSem nD τ sig} {i : ℕ} (h : 0 < owed c a b g i) :
    ∃ r, (a r ≤ i ∧ i < 30 ∧ g = kcell (tgt r c) (rcvK r (par i))) ∨ (b r ≤ i ∧ i < 28 ∧ g = kcell (org r c) (crdK r)) := by
  by_contra hn
  push Not at hn
  refine Nat.lt_irrefl 0 (lt_of_lt_of_eq h ?_)
  unfold owed owedV owedK
  simp only [Finset.sum_apply, Pi.add_apply, Finsupp.add_apply, Finsupp.finset_sum_apply, tallyAt_apply]
  refine Finset.sum_eq_zero fun r _ => ?_
  obtain ⟨h1, h2⟩ := hn r
  have e1 : ∑ j ∈ Finset.Ico (a r) 30, (if g = kcell (tgt r c) (rcvK r (par j)) ∧ i = j then N else 0) = 0 :=
    Finset.sum_eq_zero fun j hj => by
      rw [Finset.mem_Ico] at hj
      exact if_neg fun hh => by obtain ⟨hg, rfl⟩ := hh; exact h1 hj.1 hj.2 hg
  have e2 : ∑ j ∈ Finset.Ico (b r) 28, (if g = kcell (org r c) (crdK r) ∧ i = j then 1 else 0) = 0 :=
    Finset.sum_eq_zero fun j hj => by
      rw [Finset.mem_Ico] at hj
      exact if_neg fun hh => by obtain ⟨hg, rfl⟩ := hh; exact h2 hj.1 hj.2 hg
  rw [e1, e2]
  rfl

/-- Every index a cell may be waited for at. -/
def L (g : GSem nD τ sig) : Finset ℕ := if g.1.2 = .tc then Finset.range 30 else ∅
/-- The levels: the barrier at 1, the landing of hop `h` at `2h + 2`, its credit at `2h + 3`, everything else at 0. -/
def lv (g : GSem nD τ sig) (i : ℕ) : ℕ := match dec g with
  | some (_, none) => 1
  | some (_, some (_, j)) => if j.val < 2 then 0 else if j.val < 4 then 2 * i + 2 else 2 * i + 3
  | none => 0

theorem L_of_ne (g : GSem nD τ sig) (h : g.1.2 ≠ .tc) : L g = ∅ := if_neg h
theorem L_tc (c : Dev nD) (sm : SemLoc sig) : L ((c : Thread nD τ), sm) = Finset.range 30 := if_pos rfl
theorem lv_snd (c : Dev nD) (r : Fin 4) (s : Fin 2) (i : ℕ) : lv (kcell c (sndK r s)) i = 0 := by
  unfold lv; rw [dec_kcell]; exact if_pos s.isLt
theorem lv_rcv (c : Dev nD) (r : Fin 4) (s : Fin 2) (i : ℕ) : lv (kcell c (rcvK r s)) i = 2 * i + 2 := by
  unfold lv; rw [dec_kcell]
  show (if s.val + 2 < 2 then 0 else if s.val + 2 < 4 then 2 * i + 2 else 2 * i + 3) = _
  rw [if_neg (by omega), if_pos (by omega)]
theorem lv_crd (c : Dev nD) (r : Fin 4) (i : ℕ) : lv (kcell c (crdK r)) i = 2 * i + 3 := by
  unfold lv; rw [dec_kcell]; rfl
theorem lv_bar (c : Dev nD) (i : ℕ) : lv (kcell c none) i = 1 := by
  unfold lv; rw [dec_kcell]

/-- Every cell's level is known. -/
@[irreducible] def levs : sProp 𝕄 := levAts L lv
instance levs_persistent : BI.Persistent (levs : sProp 𝕄) := by unfold levs; infer_instance

/-- While every ring has started more than `t` hops and credited `t` of them, a wait at level `2t + 2` or below is allowed. -/
theorem mayWait (c : Dev nD) (sm : SemLoc sig) (i t : ℕ) (hi : i < 30) (a b : Fin 4 → ℕ) (ha : ∀ r, t + 1 ≤ a r) (hb : ∀ r, min t 28 ≤ b r)
    (hl : lv ((c : Thread nD τ), sm) i ≤ 2 * t + 2) :
    levs ⊢ (MayWait (c : Thread nD τ) sm i (owed c a b) : sProp 𝕄) := by
  unfold levs
  exact MayOwe.of_cut (L := L) (lev := lv) (2 * t + 2)
    (fun p hp => by rw [Finset.mem_singleton.mp hp, L_tc]; exact Finset.mem_range.mpr hi)
    (fun g j hg => by
      obtain ⟨r, ⟨_, h2, rfl⟩ | ⟨_, h2, rfl⟩⟩ := owed_pos hg <;> rw [L_tc] <;> exact Finset.mem_range.mpr (by omega))
    (fun p hp => by rw [Finset.mem_singleton.mp hp]; exact hl)
    (fun g j hg => by
      obtain ⟨r, ⟨h1, h2, rfl⟩ | ⟨h1, h2, rfl⟩⟩ := owed_pos hg
      · rw [lv_rcv]; have := ha r; omega
      · rw [lv_crd]; have := hb r; omega)

/-- A wait below level 2 is allowed whatever of the rings is owed. -/
theorem mayWait_low (c : Dev nD) (sm : SemLoc sig) (i : ℕ) (hi : i < 30) (a b : Fin 4 → ℕ)
    (hl : lv ((c : Thread nD τ), sm) i ≤ 1) :
    levs ⊢ (MayWait (c : Thread nD τ) sm i (owed c a b) : sProp 𝕄) := by
  unfold levs
  exact MayOwe.of_cut (L := L) (lev := lv) 1
    (fun p hp => by rw [Finset.mem_singleton.mp hp, L_tc]; exact Finset.mem_range.mpr hi)
    (fun g j hg => by
      obtain ⟨r, ⟨_, h2, rfl⟩ | ⟨_, h2, rfl⟩⟩ := owed_pos hg <;> rw [L_tc] <;> exact Finset.mem_range.mpr (by omega))
    (fun p hp => by rw [Finset.mem_singleton.mp hp]; exact hl)
    (fun g j hg => by
      obtain ⟨r, ⟨h1, h2, rfl⟩ | ⟨h1, h2, rfl⟩⟩ := owed_pos hg
      · rw [lv_rcv]; omega
      · rw [lv_crd]; omega)

end Cert.Ring

end
-- ==== Proof.Steps.lean ====
/-
# `Steps`: one hop of one ring, operation by operation

A device's share of a ring is a bundle `Gh` of tokens and positions indexed by how many hops were started, sent, received,
finished and credited. Each theorem here is the rule of one operation of a hop, stated for every ring and every hop.
-/
module

public import proofs.«01_k».proof.Proof.Cells

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

variable (x : Dev nD → Vec F S4096x256 .fp8e4m3) (w : Dev nD → Vec F S256x2048 .fp8e4m3)
variable (κ : Dev nD × CK → ℕ) (κs : Key → ℕ)

/-! ## What every device knows -/

/-- The invariants of all cells and all slots, the first round of every cell, and the levels. -/
@[irreducible] def records : sProp 𝕄 :=
  iprop((bigSep Finset.univ fun p : Dev nD × CK => cellInv ER (Rd x w) (κ p) (kcell p.1 p.2))
    ∗ (bigSep Finset.univ fun p : Dev nD × CK => reached ER (kcell p.1 p.2) 0)
    ∗ (bigSep Finset.univ fun k : Key => slotInv EK (κs k) k (slotAny k))
    ∗ levs)

instance records_persistent : BI.Persistent (records x w κ κs : sProp 𝕄) := by unfold records; infer_instance

theorem rec_cell (c : Dev nD) (k : CK) : records x w κ κs ⊢ (cellInv ER (Rd x w) (κ (c, k)) (kcell c k) : sProp 𝕄) := by
  unfold records
  iintro ⟨H, -, -, -⟩
  ihave H' := (bigSep_elim (Φ := (fun p : Dev nD × CK => (cellInv ER (Rd x w) (κ p) (kcell p.1 p.2) : sProp 𝕄))) (Finset.mem_univ (c, k)) : _ ⊢ _) $$ H
  iexact H'
theorem rec_reached (c : Dev nD) (k : CK) : records x w κ κs ⊢ (reached ER (kcell c k) 0 : sProp 𝕄) := by
  unfold records
  iintro ⟨-, H, -, -⟩
  ihave H' := (bigSep_elim (Φ := (fun p : Dev nD × CK => (reached ER (kcell p.1 p.2) 0 : sProp 𝕄))) (Finset.mem_univ (c, k)) : _ ⊢ _) $$ H
  iexact H'
theorem rec_slot (k : Key) : records x w κ κs ⊢ (slotInv EK (κs k) k (slotAny k) : sProp 𝕄) := by
  unfold records
  iintro ⟨-, -, H, -⟩
  ihave H' := (bigSep_elim (Φ := (fun k : Key => (slotInv EK (κs k) k (slotAny k) : sProp 𝕄))) (Finset.mem_univ k) : _ ⊢ _) $$ H
  iexact H'
theorem rec_lev : records x w κ κs ⊢ (levs : sProp 𝕄) := by
  unfold records
  iintro ⟨-, -, -, H⟩
  iexact H

/-- What `c` owes, whatever waits it has recorded. -/
def owesX (c : Dev nD) (O : CellTallies nD τ sig ℕ) : sProp 𝕄 := iprop(∃ W, owes (c : Thread nD τ) O W)

/-! ## A device's share of a ring -/

/-- The tokens to send from hop `a` on: the two duties of the transfer and the write of the slot. -/
def sndTok (r : Fin 4) (c : Dev nD) (a : ℕ) : sProp 𝕄 :=
  bigSep (Finset.Ico a 30) fun h => iprop(dutyTok ER (kcell c (sndK r (par h))) (h / 2) 0
    ∗ dutyTok ER (kcell (tgt r c) (rcvK r (par h))) (h / 2) 0 ∗ writeTok EK (tgt r c, r, par h) (h / 2 + 1))
/-- The position of hop `h` at a cell. -/
def posC (c : Dev nD) (k : CK) (rd : ℕ) : sProp 𝕄 := iprop(atPos ER (kcell c k) rd ∅ 0 ∗ reached ER (kcell c k) rd)
/-- The positions at the send cells with `n` hops sent, -/
def posS (r : Fin 4) (c : Dev nD) (n : ℕ) : sProp 𝕄 :=
  iprop(posC c (sndK r (par n)) (n / 2) ∗ posC c (sndK r (par (n + 1))) ((n + 1) / 2))
/-- and at the receive cells with `n` hops received, with the credit for the landings to come. -/
def posV (r : Fin 4) (c : Dev nD) (n : ℕ) : sProp 𝕄 :=
  iprop((posC c (rcvK r (par n)) (n / 2) ∗ posC c (rcvK r (par (n + 1))) ((n + 1) / 2))
    ∗ bigSep (Finset.Ico n 30) fun h => cred (tallyAt (kcell c (rcvK r (par h))) h N))
/-- The reader's side of the two slots with `n` hops finished. -/
def rdr (r : Fin 4) (c : Dev nD) (n : ℕ) : sProp 𝕄 :=
  iprop((readerAt EK (c, r, par n) (n / 2 + 1) ∗ readerAt EK (c, r, par (n + 1)) ((n + 1) / 2 + 1)) ∗ Rel c r n)
/-- The tokens to credit from hop `b` on. -/
def crdTok (r : Fin 4) (c : Dev nD) (b : ℕ) : sProp 𝕄 :=
  bigSep (Finset.Ico b 28) fun h => dutyTok ER (kcell (org r c) (crdK r)) 0 h
/-- The credits with `n` of them waited for: some set of them arrived. -/
def crdPos (r : Fin 4) (c : Dev nD) (n : ℕ) : sProp 𝕄 :=
  iprop(∃ T : Finset ℕ, ⌜T ⊆ Finset.range 28 ∧ n + (Finset.range 28 \ T).card ≤ 28⌝ ∗ atPos ER (kcell c (crdK r)) 0 T n
    ∗ bigSep T (fun d => Rel (tgt r c) r (d + 1)) ∗ bigSep (Finset.Ico n 28) fun h => cred (tallyAt (kcell c (crdK r)) h 1))

/-- The share with `a` hops started, `s` sent, `v` received, `n` finished, `b` credited and `k` credits waited for. -/
def Gh (r : Fin 4) (c : Dev nD) (a s v n b k : ℕ) : sProp 𝕄 :=
  iprop(sndTok r c a ∗ posS r c s ∗ posV r c v ∗ rdr r c n ∗ crdTok r c b ∗ crdPos r c k)

/-- The columns of a ring. -/
def colset (r : Fin 4) : Finset (accM.view.ty.Idx) := Finset.univ.filter fun i => (i 1).val / 512 = r.val

theorem mem_blk (r : Fin 4) (p : Fin 16) (i : S4096x2048.Idx) : i ∈ (blk r p).set ↔ (i 0).val / 256 = p.val ∧ (i 1).val / 512 = r.val := by
  rw [show (blk r p).set = (Rect.unit (s := S4096x2048) (blkOff r p) S256x512.size (blkOff_inb r p)).set from View.set_slice_whole _ _, Rect.mem_set_unit]
  constructor
  · intro h
    have h0 := h 0; have h1 := h 1
    have e0 : blkOff r p 0 = 256 * p.val := rfl
    have e1 : blkOff r p 1 = 512 * r.val := rfl
    have e2 : S256x512.size 0 = 256 := rfl
    have e3 : S256x512.size 1 = 512 := rfl
    omega
  · intro ⟨h0, h1⟩ a
    fin_cases a
    · show 256 * p.val ≤ (i 0).val ∧ (i 0).val < 256 * p.val + 256; omega
    · show 512 * r.val ≤ (i 1).val ∧ (i 1).val < 512 * r.val + 512; omega

theorem blk_sub (r : Fin 4) (p : Fin 16) : (blk r p).set ⊆ colset r := fun i hi =>
  Finset.mem_filter.mpr ⟨Finset.mem_univ _, ((mem_blk r p i).mp hi).2⟩

/-! ### Moving a position, spending a token -/

theorem bigSep_peel {a b : ℕ} (h : a < b) (Φ : ℕ → sProp 𝕄) :
    bigSep (Finset.Ico a b) Φ = iprop(Φ a ∗ bigSep (Finset.Ico (a + 1) b) Φ) := by
  rw [Ico_peel h]
  exact bigSep_insert (by simp)

theorem bigSep_join {T S : Finset ℕ} (h : T ⊆ S) (Φ : ℕ → sProp 𝕄) : iprop(bigSep T Φ ∗ bigSep (S \ T) Φ) ⊢ bigSep S Φ :=
  Entails.of_eq (bigSep_sdiff_split h).symm

theorem posS_move (r : Fin 4) (c : Dev nD) (n : ℕ) :
    iprop(posC c (sndK r (par n)) (n / 2 + 1) ∗ posC c (sndK r (par (n + 1))) ((n + 1) / 2)) ⊢ (posS r c (n + 1) : sProp 𝕄) := by
  unfold posS
  rw [show par (n + 1 + 1) = par n from par_congr (by omega), show (n + 1 + 1) / 2 = n / 2 + 1 by omega]
  exact Laws.sep_comm.1

theorem posS_open (r : Fin 4) (c : Dev nD) (n : ℕ) : (posS r c n : sProp 𝕄)
    ⊢ iprop(atPos ER (kcell c (sndK r (par n))) (n / 2) ∅ 0 ∗ posC c (sndK r (par (n + 1))) ((n + 1) / 2)) := by
  unfold posS posC
  iintro ⟨⟨H, -⟩, H'⟩
  isplitl [H]; · iexact H
  iexact H'
theorem posV_open (r : Fin 4) (c : Dev nD) (n : ℕ) (hn : n < 30) : (posV r c n : sProp 𝕄)
    ⊢ iprop(atPos ER (kcell c (rcvK r (par n))) (n / 2) ∅ 0 ∗ posC c (rcvK r (par (n + 1))) ((n + 1) / 2)
      ∗ cred (tallyAt (kcell c (rcvK r (par n))) n N) ∗ bigSep (Finset.Ico (n + 1) 30) fun h => cred (tallyAt (kcell c (rcvK r (par h))) h N)) := by
  unfold posV posC
  rw [bigSep_peel hn]
  iintro ⟨⟨⟨H, -⟩, H'⟩, Hc, Hcs⟩
  isplitl [H]; · iexact H
  isplitl [H']; · iexact H'
  isplitl [Hc]; · iexact Hc
  iexact Hcs

theorem posV_move (r : Fin 4) (c : Dev nD) (n : ℕ) :
    iprop((posC c (rcvK r (par n)) (n / 2 + 1) ∗ posC c (rcvK r (par (n + 1))) ((n + 1) / 2))
      ∗ bigSep (Finset.Ico (n + 1) 30) fun h => cred (tallyAt (kcell c (rcvK r (par h))) h N)) ⊢ (posV r c (n + 1) : sProp 𝕄) := by
  unfold posV
  rw [show par (n + 1 + 1) = par n from par_congr (by omega), show (n + 1 + 1) / 2 = n / 2 + 1 by omega]
  exact BIClass.sep_mono Laws.sep_comm.1 .rfl

/-- A program of `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable {α : Type} {Q : α → sProp (MT nD τ sig ℕ (Elt F) ℕ UU ℕ)}

/-- A wait for one whole transfer at a cell whose round has one duty. -/
theorem wp_waitCell (c : Dev nD) (ck : CK) (R i : ℕ) (O : CellTallies nD τ sig ℕ) {sm : DmaSem sig} (hsm : csem ck = SemLoc.dma sm)
    (hdu : (Rd x w).duties (kcell c ck) R = {0}) (hex : (Rd x w).expect (kcell c ck) R = N)
    (hm : levs ⊢ (MayWait (c : Thread nD τ) (csem ck) i O : sProp 𝕄))
    {sp sp' : Space} {s s' : Shape} {e e' : EltTy} {κ' : Kind} {src : Memref sig .tc sp' s' e'} {dst : Memref sig κ' sp s e}
    {hsrc : src.view.WordExact} {hdst : dst.view.WordExact} (hcr : dst.view.dmaCredit = N)
    {k : PUnit → Prog (TpuEff nD τ sig (Elt F) Λ₀ .tc) α} :
    iprop(records x w κ κs ∗ atPos ER (kcell c ck) R ∅ 0 ∗ cred (tallyAt (kcell c ck) i N) ∗ owesX c O)
      ⊢ iprop(((posC c ck (R + 1) ∗ owesX c O ∗ (Rd x w).payload (kcell c ck) R 0) -∗ WP c (k ⟨⟩) Q)
        -∗ WP c (.op (.waitDma2 sm src dst hsrc hdst) k) Q) := by
  unfold owesX posC
  iintro ⟨#HR, Hat, Hc, %W, HO⟩ Hk
  ihave Hi := (rec_cell x w κ κs c ck) $$ HR
  ihave Hm := ((rec_lev x w κ κs).trans hm) $$ HR
  have e : kcell c ck = ((c : Thread nD τ), SemLoc.dma sm) := congrArg (fun z => ((c : Thread nD τ), z)) hsm
  rw [e] at hdu hex ⊢
  rw [← hcr] at hex ⊢
  rw [hsm]
  iapply (wp_wait_rest_token 𝒱₀ ER (Rd x w) (c : Thread nD τ) none (κ := κ (c, ck))
    (wpE_waitDma2_eq 𝒱₀ (c : Thread nD τ) none Set.univ) (Set.mem_univ _) i (R := R) (m := 0) (T := ∅)
    (by rw [Nat.zero_add, hex])) $$ [Hi Hc HO Hm Hat]
  · isplitl [Hi]; · iexact Hi
    isplitl [Hc]; · iexact Hc
    isplitl [HO]; · iexact HO
    isplitl [Hm]; · iexact Hm
    iexact Hat
  rw [hdu, Finset.sdiff_empty, bigSep_singleton]
  iintro ⟨HO, Hat, Hr, Hp⟩
  iapply Hk
  isplitl [Hat Hr]
  · isplitl [Hat]; · iexact Hat
    iexact Hr
  isplitl [HO]
  · iexists _; iexact HO
  iexact Hp

/-- Waiting for the sent block of hop `t`. -/
theorem wp_sendWait (r : Fin 4) (c : Dev nD) (t : ℕ) (ht : t < 30) (a b : Fin 4 → ℕ) {sm : DmaSem sig} (hsm : csem (sndK r (par t)) = SemLoc.dma sm)
    {sp sp' : Space} {s s' : Shape} {e e' : EltTy} {κ' : Kind} {src : Memref sig .tc sp' s' e'} {dst : Memref sig κ' sp s e}
    {hsrc : src.view.WordExact} {hdst : dst.view.WordExact} (hcr : dst.view.dmaCredit = N)
    {k : PUnit → Prog (TpuEff nD τ sig (Elt F) Λ₀ .tc) α} :
    iprop(records x w κ κs ∗ posS r c t ∗ cred (tallyAt (kcell c (sndK r (par t))) 0 N) ∗ owesX c (owed c a b))
      ⊢ iprop(((posS r c (t + 1) ∗ owesX c (owed c a b) ∗ blkPts x w r t c) -∗ WP c (k ⟨⟩) Q)
        -∗ WP c (.op (.waitDma2 sm src dst hsrc hdst) k) Q) := by
  iintro ⟨#HR, HP, Hc, HO⟩ Hk
  ihave HP' := (posS_open r c t) $$ HP
  icases HP' with ⟨Hat, Hp'⟩
  iapply (wp_waitCell x w κ κs c (sndK r (par t)) (t / 2) 0 (owed c a b) hsm (duties_snd x w c r ht) (expect_snd x w c r ht)
    (mayWait_low c _ 0 (by decide) a b (by rw [lv_snd]; decide)) hcr) $$ [Hat Hc HO]
  · isplitl []; · iexact HR
    isplitl [Hat]; · iexact Hat
    isplitl [Hc]; · iexact Hc
    iexact HO
  iintro ⟨Hp, HO, Hb⟩
  iapply Hk
  isplitl [Hp Hp']
  · iapply (posS_move r c t)
    isplitl [Hp]; · iexact Hp
    iexact Hp'
  isplitl [HO]; · iexact HO
  iapply (Entails.of_eq (payload_snd x w c r t 0))
  iexact Hb

/-- Waiting for the landing of hop `t`. -/
theorem wp_recvWait (r : Fin 4) (c : Dev nD) (t : ℕ) (ht : t < 30) (a b : Fin 4 → ℕ) (ha : ∀ r, t + 1 ≤ a r) (hb : ∀ r, min t 28 ≤ b r)
    {sm : DmaSem sig} (hsm : csem (rcvK r (par t)) = SemLoc.dma sm)
    {sp sp' : Space} {s s' : Shape} {e e' : EltTy} {κ' : Kind} {src : Memref sig .tc sp' s' e'} {dst : Memref sig κ' sp s e}
    {hsrc : src.view.WordExact} {hdst : dst.view.WordExact} (hcr : dst.view.dmaCredit = N)
    {k : PUnit → Prog (TpuEff nD τ sig (Elt F) Λ₀ .tc) α} :
    iprop(records x w κ κs ∗ posV r c t ∗ owesX c (owed c a b))
      ⊢ iprop(((posV r c (t + 1) ∗ owesX c (owed c a b) ∗ landPts x w r t c) -∗ WP c (k ⟨⟩) Q)
        -∗ WP c (.op (.waitDma2 sm src dst hsrc hdst) k) Q) := by
  iintro ⟨#HR, HP, HO⟩ Hk
  ihave HP' := (posV_open r c t ht) $$ HP
  icases HP' with ⟨Hat, Hp', Hc, Hcs⟩
  iapply (wp_waitCell x w κ κs c (rcvK r (par t)) (t / 2) t (owed c a b) hsm (duties_rcv x w c r ht) (expect_rcv x w c r ht)
    (mayWait c _ t t ht a b ha hb (by rw [lv_rcv])) hcr) $$ [Hat Hc HO]
  · isplitl []; · iexact HR
    isplitl [Hat]; · iexact Hat
    isplitl [Hc]; · iexact Hc
    iexact HO
  iintro ⟨Hp, HO, Hb⟩
  iapply Hk
  isplitl [Hp Hp' Hcs]
  · iapply (posV_move r c t)
    isplitl [Hp Hp']
    · isplitl [Hp]; · iexact Hp
      iexact Hp'
    iexact Hcs
  isplitl [HO]; · iexact HO
  iapply (Entails.of_eq (payload_rcv x w c r t 0))
  iexact Hb

/-- The landed slot goes back to its lender. -/
theorem release_slot (r : Fin 4) (c : Dev nD) (t : ℕ) :
    iprop(records x w κ κs ∗ posV r c (t + 1) ∗ rdr r c t ∗ landPts x w r t c)
      ⊢ (|={Set.univ}=> (posV r c (t + 1) ∗ rdr r c (t + 1)) : sProp 𝕄) := by
  iintro ⟨#HR, HV, Hr, Hl⟩
  unfold rdr Rel
  icases Hr with ⟨⟨Hr0, Hr1⟩, ⟨-, #Hl1⟩⟩
  ihave #Hi := (rec_slot x w κ κs (c, r, par t)) $$ HR
  unfold landPts
  ihave Hs := (slotPts_any r (par t) c (lift (landed x w r t c))) $$ Hl
  imod (slot_release EK (Set.mem_univ _) (slotAny_false (c, r, par t)) (t / 2 + 1)) $$ [Hr0 Hs] with ⟨Hr0, #Hrel⟩
  · isplitl []; · iexact Hi
    isplitl [Hr0]; · iexact Hr0
    iexact Hs
  unfold posV posC
  icases HV with ⟨⟨⟨Ha, #Hra⟩, ⟨Hb, #Hrb⟩⟩, Hc⟩
  rw [show par (t + 1 + 1) = par t from par_congr (by omega), show (t + 1 + 1) / 2 = t / 2 + 1 by omega]
  imodintro
  isplitl [Ha Hb Hc]
  · isplitl [Ha Hb]
    · isplitl [Ha]
      · isplitl [Ha]; · iexact Ha
        iexact Hra
      · isplitl [Hb]; · iexact Hb
        iexact Hrb
    iexact Hc
  isplitl [Hr0 Hr1]
  · isplitl [Hr1]; · iexact Hr1
    iexact Hr0
  isplitl []
  · iexact Hl1
  unfold Rl
  rw [show par (t + 1 + 1) = par t from par_congr (by omega), show (t + 1 + 1) / 2 = t / 2 + 1 by omega]
  isplitl []
  · iexact Hrel
  iexact Hrb

/-- The credit of a finished hop. -/
theorem wp_credit (r : Fin 4) (c : Dev nD) (t : ℕ) (a b : Fin 4 → ℕ) (hb : b r = min t 28) {cond : BitVec 1} (hc : cond = 1#1 ↔ t < 28)
    {dev : ℕ} (hdev : dev = (org r c).val) {lt : cond = 1#1 → dev < nD} {sm : Sem sig} (hsm : csem (crdK r) = SemLoc.reg sm)
    {n : ℤ} (hn : n = ((1 : ℕ) : ℤ)) {kk : Prog (TpuEff nD τ sig (Elt F) Λ₀ .tc) α} :
    iprop(records x w κ κs ∗ rdr r c (t + 1) ∗ crdTok r c (min t 28) ∗ owesX c (owed c a b))
      ⊢ iprop(((rdr r c (t + 1) ∗ crdTok r c (min (t + 1) 28) ∗ owesX c (owed c a (Function.update b r (min (t + 1) 28)))) -∗ WP c kk Q)
        -∗ WP c (if h : cond = 1#1 then .op (.semSignal ((⟨dev, lt h⟩ : Dev nD), Proc.tc) sm n) (fun _ => kk) else kk) Q) := by
  iintro ⟨#HR, Hr, Ht, HO⟩ Hk
  by_cases h : t < 28
  · rw [dif_pos (hc.mpr h)]
    subst hn hdev
    rw [show min t 28 = t by omega] at hb ⊢
    rw [show min (t + 1) 28 = t + 1 by omega]
    have hob := owed_credit c a b r (by omega)
    rw [hb] at hob
    unfold rdr crdTok owesX
    icases HO with ⟨%W, HO⟩
    ihave Ht := (Entails.of_eq (bigSep_peel h fun h => dutyTok ER (kcell (org r c) (crdK r)) 0 h)) $$ Ht
    icases Ht with ⟨Ht, Hts⟩
    icases Hr with ⟨Hr, #Hrel⟩
    ihave #Hi := (rec_cell x w κ κs (org r c) (crdK r)) $$ HR
    ihave #Hre := (rec_reached x w κ κs (org r c) (crdK r)) $$ HR
    have e : kcell (org r c) (crdK r) = ((org r c : Thread nD τ), SemLoc.reg sm) := congrArg (fun z => ((org r c : Thread nD τ), z)) hsm
    have hd := duties_crd x w (org r c) r
    have hm := amount_crd x w (org r c) r 0 t
    have hp := payload_crd x w (org r c) r 0 t
    rw [tgt_org] at hp
    rw [e] at hd hm hp hob ⊢
    iapply (Rounds.wp_signal 𝒱₀ ER (Rd x w) (c : Thread nD τ) none (dst := (org r c : Thread nD τ)) (κ := κ (org r c, crdK r))
      (r := 0) (d := t) (by rw [hd]; exact Finset.mem_range.mpr h) hm t (owed c a (Function.update b r (t + 1))) hob) $$ [HO Ht]
    · isplitl []; · iexact Hi
      isplitl [HO]; · iexact HO
      isplitl [Ht]; · iexact Ht
      isplitl []
      · iapply (Entails.of_eq hp.symm)
        iexact Hrel
      iexact Hre
    iintro HO
    iapply Hk
    isplitl [Hr]
    · isplitl [Hr]; · iexact Hr
      iexact Hrel
    isplitl [Hts]; · iexact Hts
    iexists _; iexact HO
  · rw [dif_neg (fun hh => h (hc.mp hh))]
    have e : Function.update b r (min (t + 1) 28) = b := by
      rw [show min (t + 1) 28 = b r by omega]; exact Function.update_eq_self r b
    rw [e, show min (t + 1) 28 = min t 28 by omega]
    iapply Hk
    isplitl [Hr]; · iexact Hr
    isplitl [Ht]; · iexact Ht
    iexact HO

/-- With `n + 1` credits waited for, one of a hop from `n` on has arrived. -/
theorem exists_credit {S : Finset ℕ} {n : ℕ} (hS : S ⊆ Finset.range 28) (hn : n + 1 + (Finset.range 28 \ S).card ≤ 28) : ∃ d ∈ S, n ≤ d := by
  by_contra hc
  push Not at hc
  have h1 : S ⊆ Finset.range n := fun d hd => Finset.mem_range.mpr (hc d hd)
  have h2 := Finset.card_le_card h1
  have h3 := Finset.card_sdiff_add_card_eq_card hS
  rw [Finset.card_range] at h2 h3
  omega

/-- The wait for a credit before hop `t + 1`, from hop 2 on. -/
theorem wp_crdWait (r : Fin 4) (c : Dev nD) (t : ℕ) (ht : t < 29) (a b : Fin 4 → ℕ) (ha : ∀ r, t + 1 ≤ a r) (hb : ∀ r, min t 28 ≤ b r)
    {cond : BitVec 1} (hc : cond = 1#1 ↔ 1 ≤ t) {sm : Sem sig} (hsm : csem (crdK r) = SemLoc.reg sm)
    {n : ℤ} (hn : n = ((1 : ℕ) : ℤ)) {kk : Prog (TpuEff nD τ sig (Elt F) Λ₀ .tc) α} :
    iprop(records x w κ κs ∗ Rel (tgt r c) r 0 ∗ crdPos r c (t - 1) ∗ owesX c (owed c a b))
      ⊢ iprop(((Rel (tgt r c) r t ∗ crdPos r c t ∗ owesX c (owed c a b)) -∗ WP c kk Q)
        -∗ WP c (if h : cond = 1#1 then .op (.semWait sm n) (fun _ => kk) else kk) Q) := by
  iintro ⟨#HR, #H0, Hp, HO⟩ Hk
  by_cases h : 1 ≤ t
  · obtain ⟨n, rfl⟩ : ∃ n, t = n + 1 := ⟨t - 1, by omega⟩
    rw [dif_pos (hc.mpr h)]
    subst hn
    rw [show n + 1 - 1 = n by omega]
    unfold crdPos owesX
    icases Hp with ⟨%T, %hT, Hat, HT, Hc⟩
    icases HO with ⟨%W, HO⟩
    ihave Hc := (Entails.of_eq (bigSep_peel (show n < 28 by omega) fun h => cred (tallyAt (kcell c (crdK r)) h 1))) $$ Hc
    icases Hc with ⟨Hc, Hcs⟩
    ihave #Hi := (rec_cell x w κ κs c (crdK r)) $$ HR
    ihave #Hm := ((rec_lev x w κ κs).trans (mayWait c (csem (crdK r)) n (n + 1) (by omega) a b ha hb (by rw [lv_crd]; omega))) $$ HR
    have e : kcell c (crdK r) = ((c : Thread nD τ), SemLoc.reg sm) := congrArg (fun z => ((c : Thread nD τ), z)) hsm
    have hd := duties_crd x w c r
    have hx := expect_crd x w c r
    have hp := fun d => payload_crd x w c r 0 d
    rw [e] at hd hx ⊢
    rw [hsm]
    iapply (Rounds.wp_wait 𝒱₀ ER (Rd x w) (c : Thread nD τ) none (κ := κ (c, crdK r))
      (wpE_semWait_eq 𝒱₀ (c : Thread nD τ) none Set.univ) (Set.mem_univ _) {(SemLoc.reg sm, n)} (cr := Finsupp.single n 1) (R := 0) (m := n) (T := T)
      (by simp) (image_single_subset (SemLoc.reg sm) n 1)) $$ [Hat Hc HO]
    · isplitl []; · iexact Hi
      isplitl [Hc]; · iexact Hc
      isplitl [HO]; · iexact HO
      isplitl []; · iexact Hm
      iexact Hat
    iintro %S ⟨%hS, HO, Hat, HS⟩
    rw [hd, hx] at hS
    obtain ⟨d, hdS, hnd⟩ := exists_credit hS.2.1 hS.2.2
    have eS : (bigSep (S \ T) fun d => (Rd x w).payload ((c : Thread nD τ), SemLoc.reg sm) 0 d)
        = (bigSep (S \ T) fun d => (Rel (tgt r c) r (d + 1) : sProp 𝕄)) := by
      rw [← e]; exact congrArg _ (funext hp)
    ihave HS := (Entails.of_eq eS) $$ HS
    ihave #HS' := (bigSep_join hS.1 fun d => (Rel (tgt r c) r (d + 1) : sProp 𝕄)) $$ [HT HS]
    · isplitl [HT]; · iexact HT
      iexact HS
    ihave #Hd := (bigSep_elim hdS (Φ := fun d => (Rel (tgt r c) r (d + 1) : sProp 𝕄)) : _ ⊢ _) $$ HS'
    ihave #Hn := (Rel_mono (tgt r c) r (show n + 1 ≤ d + 1 by omega)) $$ Hd
    iapply Hk
    isplitl []; · iexact Hn
    isplitl [Hat Hcs]
    · iexists S
      isplitl []
      · ipureintro; exact hS.2
      isplitl [Hat]; · iexact Hat
      isplitl []; · iexact HS'
      iexact Hcs
    iexists _; iexact HO
  · rw [dif_neg (fun hh => h (hc.mp hh))]
    obtain rfl : t = 0 := by omega
    iapply Hk
    isplitl []; · iexact H0
    isplitl [Hp]; · iexact Hp
    iexact HO

/-- The band apart from the block being sent, -/
theorem acc_split (r : Fin 4) (c : Dev nD) (p : Fin 16) (f : Acc F) :
    (accPts c (colset r) f : sProp 𝕄) ⊢ iprop(accPts c (blk r p).set f ∗ accPts c (colset r \ (blk r p).set) f) := by
  unfold accPts
  exact (pointsTo_split_subset (blk_sub r p)).1
/-- and together again. -/
theorem acc_join (r : Fin 4) (c : Dev nD) (p : Fin 16) (f : Acc F) :
    iprop(accPts c (blk r p).set f ∗ accPts c (colset r \ (blk r p).set) f) ⊢ (accPts c (colset r) f : sProp 𝕄) := by
  unfold accPts
  exact (pointsTo_split_subset (blk_sub r p)).2

/-- What lands in the slot of hop `g`. -/
theorem land_write (r : Fin 4) (c : Dev nD) (g : ℕ) (f : (commM r).view.ref.ty.Contents (Elt F)) :
    ((slotM r (par g)).view.loc (tgt r c : Thread nD τ) ↦[(slotM r (par g)).view.set]{fullShare}
        ((slotM r (par g)).view.write (Elt F) f ((blk r (chunk r c g)).read (Elt F) (acc x w r g c)) Finset.univ))
      ⊢ (landPts x w r g (tgt r c) : sProp 𝕄) := by
  unfold landPts slotPts
  rw [landed_tgt]
  iintro H
  iexists _
  isplitl []
  · ipureintro
    exact slot_read_write r (par g) f _
  rw [View.set_reshape]
  iexact H

theorem blk_src (r : Fin 4) (c : Dev nD) (p : Fin 16) (f : Acc F) :
    (accPts c (blk r p).set f : sProp 𝕄) ⊢ ((blk r p).loc (c : Thread nD τ) ↦[(blk r p).set]{fullShare} f) := by
  unfold accPts
  exact .rfl
theorem slot_dst (r : Fin 4) (s : Fin 2) (d : Dev nD) (f : (commM r).view.ref.ty.Contents (Elt F)) :
    ((slotV r s).loc (d : Thread nD τ) ↦[(slotV r s).set]{fullShare} f : sProp 𝕄)
      ⊢ ((slotM r s).view.loc (d : Thread nD τ) ↦[(slotM r s).view.set]{fullShare} f) := by
  rw [View.set_reshape]

/-- Starting hop `g`. -/
theorem wp_sendStart (r : Fin 4) (c : Dev nD) (g : ℕ) (hg : g < 30) (a b : Fin 4 → ℕ) (ha : a r = g)
    {off : Fin 2 → ℕ} (hoff : off = blkOff r (chunk r c g)) {off2 : Fin 3 → ℕ} (hoff2 : off2 = slotOff (par g).val)
    {inb : ∀ i, off i + S256x512.size i ≤ S4096x2048.size i} {inb2 : ∀ i, off2 i + S1x256x512.size i ≤ S2x256x512.size i}
    {st : ∀ i, (Rect.unit (s := S4096x2048) off S256x512.size inb).stride i = 1} {st2 : ∀ i, (Rect.unit (s := S2x256x512) off2 S1x256x512.size inb2).stride i = 1}
    {dev : ℕ} (hdev : dev = (tgt r c).val) {lt : dev < nD}
    {sS sR : DmaSem sig} (hsS : csem (sndK r (par g)) = SemLoc.dma sS) (hsR : csem (rcvK r (par g)) = SemLoc.dma sR)
    {hsc : (((commM r).slice (Rect.unit (s := S2x256x512) off2 S1x256x512.size inb2) st2).squeeze S256x512 squeezes_S1x256x512_S256x512).view.ref.isScScratch = false}
    {hsrc : (accM.slice (Rect.unit (s := S4096x2048) off S256x512.size inb) st).view.WordExact}
    {hdst : (((commM r).slice (Rect.unit (s := S2x256x512) off2 S1x256x512.size inb2) st2).squeeze S256x512 squeezes_S1x256x512_S256x512).view.WordExact}
    {hty : DmaTarget.Typed .vmem (SemLoc.dma sR) (DmaTarget.remote (Dev.tc (⟨dev, lt⟩ : Dev nD))
      (((commM r).slice (Rect.unit (s := S2x256x512) off2 S1x256x512.size inb2) st2).squeeze S256x512 squeezes_S1x256x512_S256x512) (SemLoc.dma sS) hsc)}
    {kk : Prog (TpuEff nD τ sig (Elt F) Λ₀ .tc) α} :
    iprop(records x w κ κs ∗ sndTok r c g ∗ posS r c g ∗ Rl (tgt r c) r g ∗ accPts c (colset r) (acc x w r g c) ∗ owesX c (owed c a b))
      ⊢ iprop(((sndTok r c (g + 1) ∗ posS r c g ∗ accPts c (colset r \ (blk r (chunk r c g)).set) (acc x w r g c)
            ∗ cred (tallyAt (kcell c (sndK r (par g))) 0 N) ∗ owesX c (owed c (Function.update a r (g + 1)) b)) -∗ WP c kk Q)
        -∗ WP c (.op (.enqueueDma (accM.slice (Rect.unit (s := S4096x2048) off S256x512.size inb) st)
            (.remote (Dev.tc (⟨dev, lt⟩ : Dev nD))
              (((commM r).slice (Rect.unit (s := S2x256x512) off2 S1x256x512.size inb2) st2).squeeze S256x512 squeezes_S1x256x512_S256x512) (SemLoc.dma sS) hsc)
            (SemLoc.dma sR) hsrc hdst hty) (fun _ => kk)) Q) := by
  subst hoff hoff2 hdev
  iintro ⟨#HR, Ht, HP, #Hl, Ha, HO⟩ Hk
  unfold sndTok Rl owesX
  ihave Ht := (Entails.of_eq (bigSep_peel hg fun h => iprop(dutyTok ER (kcell c (sndK r (par h))) (h / 2) 0
    ∗ dutyTok ER (kcell (tgt r c) (rcvK r (par h))) (h / 2) 0 ∗ writeTok EK (tgt r c, r, par h) (h / 2 + 1)))) $$ Ht
  icases Ht with ⟨⟨Ht1, Ht2, Ht3⟩, Hts⟩
  icases Hl with ⟨#Hrel, #Hrr⟩
  icases HO with ⟨%W, HO⟩
  ihave #Hsi := (rec_slot x w κ κs (tgt r c, r, par g)) $$ HR
  imod (slot_take EK (Set.mem_univ _) (g / 2 + 1)) $$ [Ht3] with Hslot
  · isplitl []; · iexact Hsi
    isplitl []; · iexact Hrel
    iexact Ht3
  unfold slotAny slot
  icases Hslot with ⟨%f, Hslot⟩
  ihave Ha := (acc_split r c (chunk r c g) (acc x w r g c)) $$ Ha
  icases Ha with ⟨Hb, Ha⟩
  unfold posS posC
  icases HP with ⟨⟨HP1, #HP2⟩, HP3⟩
  ihave #Hi1 := (rec_cell x w κ κs c (sndK r (par g))) $$ HR
  ihave #Hi2 := (rec_cell x w κ κs (tgt r c) (rcvK r (par g))) $$ HR
  have e1 : kcell c (sndK r (par g)) = ((c : Thread nD τ), SemLoc.dma sS) := congrArg (fun z => ((c : Thread nD τ), z)) hsS
  have e2 : kcell (tgt r c) (rcvK r (par g)) = ((tgt r c : Thread nD τ), SemLoc.dma sR) := congrArg (fun z => ((tgt r c : Thread nD τ), z)) hsR
  have d1 := duties_snd x w c r hg
  have d2 := duties_rcv x w (tgt r c) r hg
  have m1 := amount_snd x w c r (par g) (g / 2) 0
  have m2 := amount_rcv x w (tgt r c) r (par g) (g / 2) 0
  have p1 := payload_snd x w c r g 0
  have p2 := payload_rcv x w (tgt r c) r g 0
  have hO := owed_send c a b r (by omega)
  rw [ha] at hO
  rw [e1] at d1 m1 p1 ⊢
  rw [e2] at d2 m2 p2 hO ⊢
  iapply (Rounds.wp_send_pointsTo 𝒱₀ ER (Rd x w) (c : Thread nD τ) none (c' := (tgt r c : Thread nD τ)) (κ₁ := κ (c, sndK r (par g))) (κ₂ := κ (tgt r c, rcvK r (par g)))
    (src := accM.slice (Rect.unit (s := S4096x2048) (blkOff r (chunk r c g)) S256x512.size inb) st)
    (dst := ((commM r).slice (Rect.unit (s := S2x256x512) (slotOff (par g).val) S1x256x512.size inb2) st2).squeeze S256x512 squeezes_S1x256x512_S256x512)
    (sS := SemLoc.dma sS) (sem := SemLoc.dma sR) (q := fullShare) (fs := acc x w r g c) (fd := f) (r₁ := g / 2) (r₂ := g / 2) (d₁ := 0) (d₂ := 0)
    (by rw [d1]; exact Finset.mem_singleton_self 0) (by rw [d2]; exact Finset.mem_singleton_self 0) g 0 N
    (slotM_credit r (par g)) m1 m2 (owed c (Function.update a r (g + 1)) b) hO
    (by rw [p1]; exact Entails.of_eq rfl) (by rw [p2]; exact land_write x w r c g f)) $$ [Ht1 Ht2 Hslot Hb HO]
  · isplitl []; · iexact Hi1
    isplitl []; · iexact Hi2
    isplitl [Hb]
    · iapply (blk_src r c (chunk r c g) (acc x w r g c)); iexact Hb
    isplitl [Hslot]
    · iapply (slot_dst r (par g) (tgt r c) f); iexact Hslot
    isplitl [HO]; · iexact HO
    isplitl [Ht1]; · iexact Ht1
    isplitl []; · iexact HP2
    isplitl [Ht2]; · iexact Ht2
    iexact Hrr
  iintro ⟨Hc, HO⟩
  iapply Hk
  isplitl [Hts]; · iexact Hts
  isplitl [HP1 HP3]
  · isplitl [HP1]
    · isplitl [HP1]; · iexact HP1
      iexact HP2
    iexact HP3
  isplitl [Ha]; · iexact Ha
  isplitl [Hc]; · iexact Hc
  iexists _; iexact HO

/-- A slot read through its rectangle. -/
theorem wp_loadSlot (r : Fin 4) (s : Fin 2) (c : Dev nD) (X : Vec F S1x256x512 .bf16) {off2 : Fin 3 → ℕ} (hoff2 : off2 = slotOff s.val)
    {inb2 : ∀ i, off2 i + S1x256x512.size i ≤ S2x256x512.size i}
    {hl : (commM r).view.LoadsAt (Rect.unit (s := S2x256x512) off2 S1x256x512.size inb2).toLoadRect}
    {k : Vec F S1x256x512 .bf16 → Prog (TpuEff nD τ sig (Elt F) Λ₀ .tc) α} :
    (slotPts r s c X : sProp 𝕄) ⊢ iprop((slotPts r s c X -∗ WP c (k X) Q)
      -∗ WP c (.op (.load (commM r) (Rect.unit (s := S2x256x512) off2 S1x256x512.size inb2).toLoadRect hl) k) Q) := by
  subst hoff2
  unfold slotPts
  iintro ⟨%f, %hf, H⟩ Hk
  iapply (wp_load_rect 𝒱₀ (c : Thread nD τ) none Set.univ (m := commM r) (r := Rect.unit (s := S2x256x512) (slotOff s.val) S1x256x512.size inb2)
    (S := (slotV r s).set) (f := f) (Finset.Subset.refl _)) $$ H
  iintro H
  subst hf
  iapply Hk
  iexists f
  isplitl []
  · ipureintro; rfl
  iexact H

/-- A block of the accumulator read through its rectangle. -/
theorem wp_loadBlk (r : Fin 4) (p : Fin 16) (c : Dev nD) (f : Acc F) {off : Fin 2 → ℕ} (hoff : off = blkOff r p)
    {inb : ∀ i, off i + S256x512.size i ≤ S4096x2048.size i}
    {hl : accM.view.LoadsAt (Rect.unit (s := S4096x2048) off S256x512.size inb).toLoadRect}
    {k : Vec F S256x512 .bf16 → Prog (TpuEff nD τ sig (Elt F) Λ₀ .tc) α} :
    (accPts c (colset r) f : sProp 𝕄) ⊢ iprop((accPts c (colset r) f -∗ WP c (k ((blk r p).read (Elt F) f)) Q)
      -∗ WP c (.op (.load accM (Rect.unit (s := S4096x2048) off S256x512.size inb).toLoadRect hl) k) Q) := by
  subst hoff
  unfold accPts
  iintro H Hk
  iapply (wp_load_rect 𝒱₀ (c : Thread nD τ) none Set.univ (m := accM) (r := Rect.unit (s := S4096x2048) (blkOff r p) S256x512.size inb)
    (S := colset r) (f := f) (blk_sub r p)) $$ H
  iintro H
  iapply Hk
  iexact H

/-- A block of the accumulator written through its rectangle. -/
theorem wp_storeBlk (r : Fin 4) (p : Fin 16) (c : Dev nD) (f : Acc F) (v : Vec F S256x512 .bf16) {off : Fin 2 → ℕ} (hoff : off = blkOff r p)
    {inb : ∀ i, off i + S256x512.size i ≤ S4096x2048.size i}
    {hx : (accM.access (Rect.unit (s := S4096x2048) off S256x512.size inb)).Stores Finset.univ}
    {hm : (Finset.univ : Finset (Rect.unit (s := S4096x2048) off S256x512.size inb).shape.Idx) = Finset.univ ∨ ∀ a, (Rect.unit (s := S4096x2048) off S256x512.size inb).stride a = 1}
    {k : PUnit → Prog (TpuEff nD τ sig (Elt F) Λ₀ .tc) α} :
    (accPts c (colset r) f : sProp 𝕄) ⊢ iprop((accPts c (colset r) ((blk r p).write (Elt F) f v Finset.univ) -∗ WP c (k ⟨⟩) Q)
      -∗ WP c (.op (.store accM (Rect.unit (s := S4096x2048) off S256x512.size inb) v Finset.univ hx hm) k) Q) := by
  subst hoff
  unfold accPts
  iintro H Hk
  iapply (wp_store 𝒱₀ (c : Thread nD τ) none Set.univ (m := accM) (r := Rect.unit (s := S4096x2048) (blkOff r p) S256x512.size inb) (w := v)
    (S := colset r) (f := f) (blk_sub r p)) $$ H
  iintro H
  iapply Hk
  iexact H

end

end Cert.Ring

end
-- ==== Proof.Stages.lean ====
/-
# `Stages`: one hop of one ring as a chain of stages

The stages of hop `t` are `st0` (started), `st1` (sent), `st2` (received), `st3` (added, in the first 15 hops), `st4`
(block written), `st5` (slot released and credited), `st6` (allowed to start the next hop). Each theorem takes a device
from one stage to the next through the operation of the program that does so.
-/
module

public import proofs.«01_k».proof.Proof.Steps

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

/-- Hop `t` started, -/
def st0 (r : Fin 4) (c : Dev nD) (t : ℕ) : sProp 𝕄 :=
  iprop(Gh r c (t + 1) t t t (min t 28) (t - 1) ∗ Rel (tgt r c) r 0 ∗ accPts c (colset r \ (blk r (chunk r c t)).set) (acc x w r t c)
    ∗ cred (tallyAt (kcell c (sndK r (par t))) 0 N))
/-- its block sent, -/
def st1 (r : Fin 4) (c : Dev nD) (t : ℕ) : sProp 𝕄 :=
  iprop(Gh r c (t + 1) (t + 1) t t (min t 28) (t - 1) ∗ Rel (tgt r c) r 0 ∗ accPts c (colset r) (acc x w r t c))
/-- the neighbour's block received, -/
def st2 (r : Fin 4) (c : Dev nD) (t : ℕ) : sProp 𝕄 :=
  iprop(Gh r c (t + 1) (t + 1) (t + 1) t (min t 28) (t - 1) ∗ Rel (tgt r c) r 0 ∗ accPts c (colset r) (acc x w r t c) ∗ landPts x w r t c)
/-- added if the hop adds, -/
def st3 (r : Fin 4) (c : Dev nD) (t : ℕ) : sProp 𝕄 :=
  iprop(Gh r c (t + 1) (t + 1) (t + 1) t (min t 28) (t - 1) ∗ Rel (tgt r c) r 0
    ∗ accPts c (colset r) (acc x w r (if t < 15 then t + 1 else t) c) ∗ landPts x w r t c)
/-- and the block written, -/
def st4 (r : Fin 4) (c : Dev nD) (t : ℕ) : sProp 𝕄 :=
  iprop(Gh r c (t + 1) (t + 1) (t + 1) t (min t 28) (t - 1) ∗ Rel (tgt r c) r 0 ∗ accPts c (colset r) (acc x w r (t + 1) c) ∗ landPts x w r t c)
/-- the slot released and the hop credited, -/
def st5 (r : Fin 4) (c : Dev nD) (t : ℕ) : sProp 𝕄 :=
  iprop(Gh r c (t + 1) (t + 1) (t + 1) (t + 1) (min (t + 1) 28) (t - 1) ∗ Rel (tgt r c) r 0 ∗ accPts c (colset r) (acc x w r (t + 1) c))
/-- and `g` hops finished with the next slot known to be free. -/
def st6 (r : Fin 4) (c : Dev nD) (g : ℕ) : sProp 𝕄 :=
  iprop(Gh r c g g g g (min g 28) (g - 1) ∗ Rel (tgt r c) r 0 ∗ accPts c (colset r) (acc x w r g c) ∗ Rl (tgt r c) r g)

section
variable {α : Type} {Q : α → sProp (MT nD τ sig ℕ (Elt F) ℕ UU ℕ)}

theorem to_st1 (r : Fin 4) (c : Dev nD) (t : ℕ) (ht : t < 30) (a b : Fin 4 → ℕ) {sm : DmaSem sig} (hsm : csem (sndK r (par t)) = SemLoc.dma sm)
    {sp sp' : Space} {s s' : Shape} {e e' : EltTy} {κ' : Kind} {src : Memref sig .tc sp' s' e'} {dst : Memref sig κ' sp s e}
    {hsrc : src.view.WordExact} {hdst : dst.view.WordExact} (hcr : dst.view.dmaCredit = N)
    {kk : Prog (TpuEff nD τ sig (Elt F) Λ₀ .tc) α} :
    iprop(records x w κ κs ∗ st0 x w r c t ∗ owesX c (owed c a b))
      ⊢ iprop(((st1 x w r c t ∗ owesX c (owed c a b)) -∗ WP c kk Q)
        -∗ WP c (.op (.waitDma2 sm src dst hsrc hdst) (fun _ => kk)) Q) := by
  unfold st0 st1 Gh
  iintro ⟨#HR, ⟨⟨G1, GS, GV, Gr, G2, G3⟩, Hl, Ha, Hc⟩, HO⟩ Hk
  iapply (wp_sendWait x w κ κs r c t ht a b hsm hcr) $$ [GS Hc HO]
  · isplitl []; · iexact HR
    isplitl [GS]; · iexact GS
    isplitl [Hc]; · iexact Hc
    iexact HO
  unfold blkPts
  iintro ⟨GS, HO, Hb⟩
  ihave Ha := (acc_join r c (chunk r c t) (acc x w r t c)) $$ [Hb Ha]
  · isplitl [Hb]; · iexact Hb
    iexact Ha
  iapply Hk
  isplitr [HO]
  · isplitl [G1 GS GV Gr G2 G3]
    · isplitl [G1]; · iexact G1
      isplitl [GS]; · iexact GS
      isplitl [GV]; · iexact GV
      isplitl [Gr]; · iexact Gr
      isplitl [G2]; · iexact G2
      iexact G3
    isplitl [Hl]; · iexact Hl
    iexact Ha
  iexact HO

theorem to_st2 (r : Fin 4) (c : Dev nD) (t : ℕ) (ht : t < 30) (a b : Fin 4 → ℕ) (ha : ∀ r, t + 1 ≤ a r) (hb : ∀ r, min t 28 ≤ b r)
    {sm : DmaSem sig} (hsm : csem (rcvK r (par t)) = SemLoc.dma sm)
    {sp sp' : Space} {s s' : Shape} {e e' : EltTy} {κ' : Kind} {src : Memref sig .tc sp' s' e'} {dst : Memref sig κ' sp s e}
    {hsrc : src.view.WordExact} {hdst : dst.view.WordExact} (hcr : dst.view.dmaCredit = N)
    {kk : Prog (TpuEff nD τ sig (Elt F) Λ₀ .tc) α} :
    iprop(records x w κ κs ∗ st1 x w r c t ∗ owesX c (owed c a b))
      ⊢ iprop(((st2 x w r c t ∗ owesX c (owed c a b)) -∗ WP c kk Q)
        -∗ WP c (.op (.waitDma2 sm src dst hsrc hdst) (fun _ => kk)) Q) := by
  unfold st1 st2 Gh
  iintro ⟨#HR, ⟨⟨G1, GS, GV, Gr, G2, G3⟩, Hl, Ha⟩, HO⟩ Hk
  iapply (wp_recvWait x w κ κs r c t ht a b ha hb hsm hcr) $$ [GV HO]
  · isplitl []; · iexact HR
    isplitl [GV]; · iexact GV
    iexact HO
  iintro ⟨GV, HO, Hp⟩
  iapply Hk
  isplitr [HO]
  · isplitl [G1 GS GV Gr G2 G3]
    · isplitl [G1]; · iexact G1
      isplitl [GS]; · iexact GS
      isplitl [GV]; · iexact GV
      isplitl [Gr]; · iexact Gr
      isplitl [G2]; · iexact G2
      iexact G3
    isplitl [Hl]; · iexact Hl
    isplitl [Ha]; · iexact Ha
    iexact Hp
  iexact HO

/-- The block read, the slot read, and their sum written. -/
theorem wp_addCore (r : Fin 4) (c : Dev nD) (t : ℕ) (ht : t < 15)
    {off : Fin 2 → ℕ} (hoff : off = blkOff r (chunk r c (t + 1))) {off2 : Fin 3 → ℕ} (hoff2 : off2 = slotOff (par t).val)
    {inb : ∀ i, off i + S256x512.size i ≤ S4096x2048.size i} {inb2 : ∀ i, off2 i + S1x256x512.size i ≤ S2x256x512.size i}
    {hl hl' : accM.view.LoadsAt (Rect.unit (s := S4096x2048) off S256x512.size inb).toLoadRect}
    {hl2 : (commM r).view.LoadsAt (Rect.unit (s := S2x256x512) off2 S1x256x512.size inb2).toLoadRect}
    {pay : Vec F S256x512 .bf16 → Vec F S1x256x512 .bf16 → Vec F S256x512 .bf16} (hpay : pay = k0_pay2)
    {hx : (accM.access (Rect.unit (s := S4096x2048) off S256x512.size inb)).Stores Finset.univ}
    {hm : (Finset.univ : Finset (Rect.unit (s := S4096x2048) off S256x512.size inb).shape.Idx) = Finset.univ ∨ ∀ a, (Rect.unit (s := S4096x2048) off S256x512.size inb).stride a = 1}
    {kk : Prog (TpuEff nD τ sig (Elt F) Λ₀ .tc) α} :
    iprop(accPts c (colset r) (acc x w r t c) ∗ landPts x w r t c)
      ⊢ iprop(((accPts c (colset r) (acc x w r (t + 1) c) ∗ landPts x w r t c) -∗ WP c kk Q)
        -∗ WP c (.op (.load accM (Rect.unit (s := S4096x2048) off S256x512.size inb).toLoadRect hl) fun u =>
            .op (.load (commM r) (Rect.unit (s := S2x256x512) off2 S1x256x512.size inb2).toLoadRect hl2) fun v =>
            .op (.load accM (Rect.unit (s := S4096x2048) off S256x512.size inb).toLoadRect hl') fun _ =>
            .op (.store accM (Rect.unit (s := S4096x2048) off S256x512.size inb) (pay u v) Finset.univ hx hm) fun _ => kk) Q) := by
  subst hpay
  rw [acc_succ, mix, if_pos ht]
  unfold landPts
  iintro ⟨Ha, Hp⟩ Hk
  iapply (wp_loadBlk r (chunk r c (t + 1)) c (acc x w r t c) hoff) $$ Ha; iintro Ha
  iapply (wp_loadSlot r (par t) c (lift (landed x w r t c)) hoff2) $$ Hp; iintro Hp
  iapply (wp_loadBlk r (chunk r c (t + 1)) c (acc x w r t c) hoff) $$ Ha; iintro Ha
  iapply (wp_storeBlk r (chunk r c (t + 1)) c (acc x w r t c) _ hoff) $$ Ha; iintro Ha
  iapply Hk
  isplitl [Ha]; · iexact Ha
  iexact Hp

/-- The slot read and written over the block. -/
theorem wp_copyCore (r : Fin 4) (c : Dev nD) (t : ℕ) (ht : 15 ≤ t)
    {off : Fin 2 → ℕ} (hoff : off = blkOff r (chunk r c (t + 1))) {off2 : Fin 3 → ℕ} (hoff2 : off2 = slotOff (par t).val)
    {inb : ∀ i, off i + S256x512.size i ≤ S4096x2048.size i} {inb2 : ∀ i, off2 i + S1x256x512.size i ≤ S2x256x512.size i}
    {hl : accM.view.LoadsAt (Rect.unit (s := S4096x2048) off S256x512.size inb).toLoadRect}
    {hl2 : (commM r).view.LoadsAt (Rect.unit (s := S2x256x512) off2 S1x256x512.size inb2).toLoadRect}
    {pay : Vec F S1x256x512 .bf16 → Vec F S256x512 .bf16} (hpay : pay = k0_pay3)
    {hx : (accM.access (Rect.unit (s := S4096x2048) off S256x512.size inb)).Stores Finset.univ}
    {hm : (Finset.univ : Finset (Rect.unit (s := S4096x2048) off S256x512.size inb).shape.Idx) = Finset.univ ∨ ∀ a, (Rect.unit (s := S4096x2048) off S256x512.size inb).stride a = 1}
    {kk : Prog (TpuEff nD τ sig (Elt F) Λ₀ .tc) α} :
    iprop(accPts c (colset r) (acc x w r t c) ∗ landPts x w r t c)
      ⊢ iprop(((accPts c (colset r) (acc x w r (t + 1) c) ∗ landPts x w r t c) -∗ WP c kk Q)
        -∗ WP c (.op (.load (commM r) (Rect.unit (s := S2x256x512) off2 S1x256x512.size inb2).toLoadRect hl2) fun v =>
            .op (.load accM (Rect.unit (s := S4096x2048) off S256x512.size inb).toLoadRect hl) fun _ =>
            .op (.store accM (Rect.unit (s := S4096x2048) off S256x512.size inb) (pay v) Finset.univ hx hm) fun _ => kk) Q) := by
  subst hpay
  rw [acc_succ, mix, if_neg (by omega)]
  unfold landPts
  iintro ⟨Ha, Hp⟩ Hk
  iapply (wp_loadSlot r (par t) c (lift (landed x w r t c)) hoff2) $$ Hp; iintro Hp
  iapply (wp_loadBlk r (chunk r c (t + 1)) c (acc x w r t c) hoff) $$ Ha; iintro Ha
  iapply (wp_storeBlk r (chunk r c (t + 1)) c (acc x w r t c) _ hoff) $$ Ha; iintro Ha
  iapply Hk
  isplitl [Ha]; · iexact Ha
  iexact Hp

theorem to_st3 (r : Fin 4) (c : Dev nD) (t : ℕ) {cond : BitVec 1} (hc : cond = 1#1 ↔ t < 15)
    {off : Fin 2 → ℕ} (hoff : off = blkOff r (chunk r c (t + 1))) {off2 : Fin 3 → ℕ} (hoff2 : off2 = slotOff (par t).val)
    {inb : cond = 1#1 → ∀ i, off i + S256x512.size i ≤ S4096x2048.size i} {inb2 : cond = 1#1 → ∀ i, off2 i + S1x256x512.size i ≤ S2x256x512.size i}
    {hl hl' : ∀ h : cond = 1#1, accM.view.LoadsAt (Rect.unit (s := S4096x2048) off S256x512.size (inb h)).toLoadRect}
    {hl2 : ∀ h : cond = 1#1, (commM r).view.LoadsAt (Rect.unit (s := S2x256x512) off2 S1x256x512.size (inb2 h)).toLoadRect}
    {pay : Vec F S256x512 .bf16 → Vec F S1x256x512 .bf16 → Vec F S256x512 .bf16} (hpay : pay = k0_pay2)
    {hx : ∀ h : cond = 1#1, (accM.access (Rect.unit (s := S4096x2048) off S256x512.size (inb h))).Stores Finset.univ}
    {hm : ∀ h : cond = 1#1, (Finset.univ : Finset (Rect.unit (s := S4096x2048) off S256x512.size (inb h)).shape.Idx) = Finset.univ
      ∨ ∀ a, (Rect.unit (s := S4096x2048) off S256x512.size (inb h)).stride a = 1}
    {kk : Prog (TpuEff nD τ sig (Elt F) Λ₀ .tc) α} :
    (st2 x w r c t : sProp 𝕄)
      ⊢ iprop((st3 x w r c t -∗ WP c kk Q)
        -∗ WP c (if h : cond = 1#1 then
            .op (.load accM (Rect.unit (s := S4096x2048) off S256x512.size (inb h)).toLoadRect (hl h)) fun u =>
            .op (.load (commM r) (Rect.unit (s := S2x256x512) off2 S1x256x512.size (inb2 h)).toLoadRect (hl2 h)) fun v =>
            .op (.load accM (Rect.unit (s := S4096x2048) off S256x512.size (inb h)).toLoadRect (hl' h)) fun _ =>
            .op (.store accM (Rect.unit (s := S4096x2048) off S256x512.size (inb h)) (pay u v) Finset.univ (hx h) (hm h)) fun _ => kk
          else kk) Q) := by
  unfold st2 st3
  iintro ⟨G, Hl, Ha, Hp⟩ Hk
  by_cases h : t < 15
  · rw [dif_pos (hc.mpr h), if_pos h]
    iapply (wp_addCore x w r c t h hoff hoff2 hpay) $$ [Ha Hp]
    · isplitl [Ha]; · iexact Ha
      iexact Hp
    iintro ⟨Ha, Hp⟩
    iapply Hk
    isplitl [G]; · iexact G
    isplitl [Hl]; · iexact Hl
    isplitl [Ha]; · iexact Ha
    iexact Hp
  · rw [dif_neg (fun hh => h (hc.mp hh)), if_neg h]
    iapply Hk
    isplitl [G]; · iexact G
    isplitl [Hl]; · iexact Hl
    isplitl [Ha]; · iexact Ha
    iexact Hp

theorem to_st4 (r : Fin 4) (c : Dev nD) (t : ℕ) {cond : BitVec 1} (hc : cond = 1#1 ↔ 15 ≤ t)
    {off : Fin 2 → ℕ} (hoff : off = blkOff r (chunk r c (t + 1))) {off2 : Fin 3 → ℕ} (hoff2 : off2 = slotOff (par t).val)
    {inb : cond = 1#1 → ∀ i, off i + S256x512.size i ≤ S4096x2048.size i} {inb2 : cond = 1#1 → ∀ i, off2 i + S1x256x512.size i ≤ S2x256x512.size i}
    {hl : ∀ h : cond = 1#1, accM.view.LoadsAt (Rect.unit (s := S4096x2048) off S256x512.size (inb h)).toLoadRect}
    {hl2 : ∀ h : cond = 1#1, (commM r).view.LoadsAt (Rect.unit (s := S2x256x512) off2 S1x256x512.size (inb2 h)).toLoadRect}
    {pay : Vec F S1x256x512 .bf16 → Vec F S256x512 .bf16} (hpay : pay = k0_pay3)
    {hx : ∀ h : cond = 1#1, (accM.access (Rect.unit (s := S4096x2048) off S256x512.size (inb h))).Stores Finset.univ}
    {hm : ∀ h : cond = 1#1, (Finset.univ : Finset (Rect.unit (s := S4096x2048) off S256x512.size (inb h)).shape.Idx) = Finset.univ
      ∨ ∀ a, (Rect.unit (s := S4096x2048) off S256x512.size (inb h)).stride a = 1}
    {kk : Prog (TpuEff nD τ sig (Elt F) Λ₀ .tc) α} :
    (st3 x w r c t : sProp 𝕄)
      ⊢ iprop((st4 x w r c t -∗ WP c kk Q)
        -∗ WP c (if h : cond = 1#1 then
            .op (.load (commM r) (Rect.unit (s := S2x256x512) off2 S1x256x512.size (inb2 h)).toLoadRect (hl2 h)) fun v =>
            .op (.load accM (Rect.unit (s := S4096x2048) off S256x512.size (inb h)).toLoadRect (hl h)) fun _ =>
            .op (.store accM (Rect.unit (s := S4096x2048) off S256x512.size (inb h)) (pay v) Finset.univ (hx h) (hm h)) fun _ => kk
          else kk) Q) := by
  unfold st3 st4
  iintro ⟨G, Hl, Ha, Hp⟩ Hk
  by_cases h : t < 15
  · rw [dif_neg (fun hh => absurd (hc.mp hh) (by omega)), if_pos h]
    iapply Hk
    isplitl [G]; · iexact G
    isplitl [Hl]; · iexact Hl
    isplitl [Ha]; · iexact Ha
    iexact Hp
  · rw [dif_pos (hc.mpr (by omega)), if_neg h]
    iapply (wp_copyCore x w r c t (by omega) hoff hoff2 hpay) $$ [Ha Hp]
    · isplitl [Ha]; · iexact Ha
      iexact Hp
    iintro ⟨Ha, Hp⟩
    iapply Hk
    isplitl [G]; · iexact G
    isplitl [Hl]; · iexact Hl
    isplitl [Ha]; · iexact Ha
    iexact Hp

theorem to_st5 (r : Fin 4) (c : Dev nD) (t : ℕ) (a b : Fin 4 → ℕ) (hb : b r = min t 28) {cond : BitVec 1} (hc : cond = 1#1 ↔ t < 28)
    {dev : ℕ} (hdev : dev = (org r c).val) {lt : cond = 1#1 → dev < nD} {sm : Sem sig} (hsm : csem (crdK r) = SemLoc.reg sm)
    {n : ℤ} (hn : n = ((1 : ℕ) : ℤ)) {kk : Prog (TpuEff nD τ sig (Elt F) Λ₀ .tc) α} :
    iprop(records x w κ κs ∗ st4 x w r c t ∗ owesX c (owed c a b))
      ⊢ iprop(((st5 x w r c t ∗ owesX c (owed c a (Function.update b r (min (t + 1) 28)))) -∗ WP c kk Q)
        -∗ WP c (if h : cond = 1#1 then .op (.semSignal ((⟨dev, lt h⟩ : Dev nD), Proc.tc) sm n) (fun _ => kk) else kk) Q) := by
  unfold st4 st5 Gh
  iintro ⟨#HR, ⟨⟨G1, GS, GV, Gr, G2, G3⟩, Hl, Ha, Hp⟩, HO⟩ Hk
  imod (release_slot x w κ κs r c t) $$ [GV Gr Hp] with ⟨GV, Gr⟩
  · isplitl []; · iexact HR
    isplitl [GV]; · iexact GV
    isplitl [Gr]; · iexact Gr
    iexact Hp
  iapply (wp_credit x w κ κs r c t a b hb hc hdev hsm hn) $$ [Gr G2 HO]
  · isplitl []; · iexact HR
    isplitl [Gr]; · iexact Gr
    isplitl [G2]; · iexact G2
    iexact HO
  iintro ⟨Gr, G2, HO⟩
  iapply Hk
  isplitr [HO]
  · isplitl [G1 GS GV Gr G2 G3]
    · isplitl [G1]; · iexact G1
      isplitl [GS]; · iexact GS
      isplitl [GV]; · iexact GV
      isplitl [Gr]; · iexact Gr
      isplitl [G2]; · iexact G2
      iexact G3
    isplitl [Hl]; · iexact Hl
    iexact Ha
  iexact HO

theorem to_st6 (r : Fin 4) (c : Dev nD) (t : ℕ) (ht : t < 29) (a b : Fin 4 → ℕ) (ha : ∀ r, t + 1 ≤ a r) (hb : ∀ r, min t 28 ≤ b r)
    {cond : BitVec 1} (hc : cond = 1#1 ↔ 1 ≤ t) {sm : Sem sig} (hsm : csem (crdK r) = SemLoc.reg sm)
    {n : ℤ} (hn : n = ((1 : ℕ) : ℤ)) {kk : Prog (TpuEff nD τ sig (Elt F) Λ₀ .tc) α} :
    iprop(records x w κ κs ∗ st5 x w r c t ∗ owesX c (owed c a b))
      ⊢ iprop(((st6 x w r c (t + 1) ∗ owesX c (owed c a b)) -∗ WP c kk Q)
        -∗ WP c (if h : cond = 1#1 then .op (.semWait sm n) (fun _ => kk) else kk) Q) := by
  unfold st5 st6 Gh
  rw [show t + 1 - 1 = t by omega]
  iintro ⟨#HR, ⟨⟨G1, GS, GV, Gr, G2, G3⟩, #Hl, Ha⟩, HO⟩ Hk
  iapply (wp_crdWait x w κ κs r c t ht a b ha hb hc hsm hn) $$ [G3 HO]
  · isplitl []; · iexact HR
    isplitl []; · iexact Hl
    isplitl [G3]; · iexact G3
    iexact HO
  unfold Rel
  iintro ⟨⟨-, #Hr⟩, G3, HO⟩
  iapply Hk
  isplitr [HO]
  · isplitl [G1 GS GV Gr G2 G3]
    · isplitl [G1]; · iexact G1
      isplitl [GS]; · iexact GS
      isplitl [GV]; · iexact GV
      isplitl [Gr]; · iexact Gr
      isplitl [G2]; · iexact G2
      iexact G3
    isplitl []; · iexact Hl
    isplitl [Ha]; · iexact Ha
    iexact Hr
  iexact HO

theorem to_st0 (r : Fin 4) (c : Dev nD) (g : ℕ) (hg : g < 30) (a b : Fin 4 → ℕ) (ha : a r = g)
    {off : Fin 2 → ℕ} (hoff : off = blkOff r (chunk r c g)) {off2 : Fin 3 → ℕ} (hoff2 : off2 = slotOff (par g).val)
    {inb : ∀ i, off i + S256x512.size i ≤ S4096x2048.size i} {inb2 : ∀ i, off2 i + S1x256x512.size i ≤ S2x256x512.size i}
    {st : ∀ i, (Rect.unit (s := S4096x2048) off S256x512.size inb).stride i = 1} {st2 : ∀ i, (Rect.unit (s := S2x256x512) off2 S1x256x512.size inb2).stride i = 1}
    {dev : ℕ} (hdev : dev = (tgt r c).val) {lt : dev < nD}
    {sS sR : DmaSem sig} (hsS : csem (sndK r (par g)) = SemLoc.dma sS) (hsR : csem (rcvK r (par g)) = SemLoc.dma sR)
    {hsc : (((commM r).slice (Rect.unit (s := S2x256x512) off2 S1x256x512.size inb2) st2).squeeze S256x512 squeezes_S1x256x512_S256x512).view.ref.isScScratch = false}
    {hsrc : (accM.slice (Rect.unit (s := S4096x2048) off S256x512.size inb) st).view.WordExact}
    {hdst : (((commM r).slice (Rect.unit (s := S2x256x512) off2 S1x256x512.size inb2) st2).squeeze S256x512 squeezes_S1x256x512_S256x512).view.WordExact}
    {hty : DmaTarget.Typed .vmem (SemLoc.dma sR) (DmaTarget.remote (Dev.tc (⟨dev, lt⟩ : Dev nD))
      (((commM r).slice (Rect.unit (s := S2x256x512) off2 S1x256x512.size inb2) st2).squeeze S256x512 squeezes_S1x256x512_S256x512) (SemLoc.dma sS) hsc)}
    {kk : Prog (TpuEff nD τ sig (Elt F) Λ₀ .tc) α} :
    iprop(records x w κ κs ∗ st6 x w r c g ∗ owesX c (owed c a b))
      ⊢ iprop(((st0 x w r c g ∗ owesX c (owed c (Function.update a r (g + 1)) b)) -∗ WP c kk Q)
        -∗ WP c (.op (.enqueueDma (accM.slice (Rect.unit (s := S4096x2048) off S256x512.size inb) st)
            (.remote (Dev.tc (⟨dev, lt⟩ : Dev nD))
              (((commM r).slice (Rect.unit (s := S2x256x512) off2 S1x256x512.size inb2) st2).squeeze S256x512 squeezes_S1x256x512_S256x512) (SemLoc.dma sS) hsc)
            (SemLoc.dma sR) hsrc hdst hty) (fun _ => kk)) Q) := by
  unfold st6 st0 Gh
  iintro ⟨#HR, ⟨⟨G1, GS, GV, Gr, G2, G3⟩, Hl, Ha, Hr⟩, HO⟩ Hk
  iapply (wp_sendStart x w κ κs r c g hg a b ha hoff hoff2 hdev hsS hsR) $$ [G1 GS Ha Hr HO]
  · isplitl []; · iexact HR
    isplitl [G1]; · iexact G1
    isplitl [GS]; · iexact GS
    isplitl [Hr]; · iexact Hr
    isplitl [Ha]; · iexact Ha
    iexact HO
  iintro ⟨G1, GS, Ha, Hc, HO⟩
  iapply Hk
  isplitr [HO]
  · isplitl [G1 GS GV Gr G2 G3]
    · isplitl [G1]; · iexact G1
      isplitl [GS]; · iexact GS
      isplitl [GV]; · iexact GV
      isplitl [Gr]; · iexact Gr
      isplitl [G2]; · iexact G2
      iexact G3
    isplitl [Hl]; · iexact Hl
    isplitl [Ha]; · iexact Ha
    iexact Hc
  iexact HO

/-- The last hop's block written. -/
theorem to_st4_last (r : Fin 4) (c : Dev nD)
    {off : Fin 2 → ℕ} (hoff : off = blkOff r (chunk r c 30)) {off2 : Fin 3 → ℕ} (hoff2 : off2 = slotOff 1)
    {inb : ∀ i, off i + S256x512.size i ≤ S4096x2048.size i} {inb2 : ∀ i, off2 i + S1x256x512.size i ≤ S2x256x512.size i}
    {hl : accM.view.LoadsAt (Rect.unit (s := S4096x2048) off S256x512.size inb).toLoadRect}
    {hl2 : (commM r).view.LoadsAt (Rect.unit (s := S2x256x512) off2 S1x256x512.size inb2).toLoadRect}
    {pay : Vec F S1x256x512 .bf16 → Vec F S256x512 .bf16} (hpay : pay = k0_pay3)
    {hx : (accM.access (Rect.unit (s := S4096x2048) off S256x512.size inb)).Stores Finset.univ}
    {hm : (Finset.univ : Finset (Rect.unit (s := S4096x2048) off S256x512.size inb).shape.Idx) = Finset.univ ∨ ∀ a, (Rect.unit (s := S4096x2048) off S256x512.size inb).stride a = 1}
    {kk : Prog (TpuEff nD τ sig (Elt F) Λ₀ .tc) α} :
    (st2 x w r c 29 : sProp 𝕄)
      ⊢ iprop((st4 x w r c 29 -∗ WP c kk Q)
        -∗ WP c (.op (.load (commM r) (Rect.unit (s := S2x256x512) off2 S1x256x512.size inb2).toLoadRect hl2) fun v =>
            .op (.load accM (Rect.unit (s := S4096x2048) off S256x512.size inb).toLoadRect hl) fun _ =>
            .op (.store accM (Rect.unit (s := S4096x2048) off S256x512.size inb) (pay v) Finset.univ hx hm) fun _ => kk) Q) := by
  unfold st2 st4
  iintro ⟨G, Hl, Ha, Hp⟩ Hk
  iapply (wp_copyCore x w r c 29 (by omega) hoff hoff2 hpay) $$ [Ha Hp]
  · isplitl [Ha]; · iexact Ha
    iexact Hp
  iintro ⟨Ha, Hp⟩
  iapply Hk
  isplitl [G]; · iexact G
  isplitl [Hl]; · iexact Hl
  isplitl [Ha]; · iexact Ha
  iexact Hp

end

end Cert.Ring

end
-- ==== Proof.Facts.lean ====
/-
# `Facts`: the offsets, devices, conditions and semaphores of the program

Every offset the program computes names a block or a slot of the rings, every device number a neighbour, every condition a
range of hops and every semaphore a cell. All are finite statements, over the sixteen devices and the trips.
-/
module

public import proofs.«01_k».proof.Proof.Ring

@[expose] public section

set_option maxRecDepth 8000

namespace Cert.Ring

open Cert.KernelIdeal Cert.KernelIdeal.Gen
open Idealize.ShloMosaic
open Idealize.ShloMosaic.TcCoe

/-! ## Blocks -/

theorem off10_blk : ∀ (c : Dev nD) (t : Fin k0_t2_loop.trips), k0_off10 c t = blkOff 0 (chunk 0 c (t.val + 1)) := by decide +kernel
theorem off13_blk : ∀ (c : Dev nD) (t : Fin k0_t2_loop.trips), k0_off13 c t = blkOff 0 (chunk 0 c (t.val + 1)) := by decide +kernel
theorem off16_blk : ∀ (c : Dev nD) (t : Fin k0_t2_loop.trips), k0_off16 c t = blkOff 0 (chunk 0 c (t.val + 1)) := by decide +kernel
theorem off18_blk : ∀ (c : Dev nD) (t : Fin k0_t2_loop.trips), k0_off18 c t = blkOff 1 (chunk 1 c (t.val + 1)) := by decide +kernel
theorem off21_blk : ∀ (c : Dev nD) (t : Fin k0_t2_loop.trips), k0_off21 c t = blkOff 1 (chunk 1 c (t.val + 1)) := by decide +kernel
theorem off22_blk : ∀ (c : Dev nD) (t : Fin k0_t2_loop.trips), k0_off22 c t = blkOff 1 (chunk 1 c (t.val + 1)) := by decide +kernel
theorem off24_blk : ∀ (c : Dev nD) (t : Fin k0_t2_loop.trips), k0_off24 c t = blkOff 2 (chunk 2 c (t.val + 1)) := by decide +kernel
theorem off27_blk : ∀ (c : Dev nD) (t : Fin k0_t2_loop.trips), k0_off27 c t = blkOff 2 (chunk 2 c (t.val + 1)) := by decide +kernel
theorem off28_blk : ∀ (c : Dev nD) (t : Fin k0_t2_loop.trips), k0_off28 c t = blkOff 2 (chunk 2 c (t.val + 1)) := by decide +kernel
theorem off30_blk : ∀ (c : Dev nD) (t : Fin k0_t2_loop.trips), k0_off30 c t = blkOff 3 (chunk 3 c (t.val + 1)) := by decide +kernel
theorem off33_blk : ∀ (c : Dev nD) (t : Fin k0_t2_loop.trips), k0_off33 c t = blkOff 3 (chunk 3 c (t.val + 1)) := by decide +kernel
theorem off34_blk : ∀ (c : Dev nD) (t : Fin k0_t2_loop.trips), k0_off34 c t = blkOff 3 (chunk 3 c (t.val + 1)) := by decide +kernel
theorem off3_blk : ∀ c : Dev nD, k0_off3 c = blkOff 0 (chunk 0 c 0) := by decide +kernel
theorem off4_blk : ∀ c : Dev nD, k0_off4 c = blkOff 1 (chunk 1 c 0) := by decide +kernel
theorem off5_blk : ∀ c : Dev nD, k0_off5 c = blkOff 2 (chunk 2 c 0) := by decide +kernel
theorem off6_blk : ∀ c : Dev nD, k0_off6 c = blkOff 3 (chunk 3 c 0) := by decide +kernel
theorem off37_blk : ∀ c : Dev nD, k0_off37 c = blkOff 0 (chunk 0 c 30) := by decide +kernel
theorem off39_blk : ∀ c : Dev nD, k0_off39 c = blkOff 1 (chunk 1 c 30) := by decide +kernel
theorem off41_blk : ∀ c : Dev nD, k0_off41 c = blkOff 2 (chunk 2 c 30) := by decide +kernel
theorem off43_blk : ∀ c : Dev nD, k0_off43 c = blkOff 3 (chunk 3 c 30) := by decide +kernel

/-! ## Slots -/

theorem off11_slot : ∀ t : Fin k0_t2_loop.trips, k0_off11 t = slotOff (par t.val).val := by decide +kernel
theorem off12_slot : ∀ t : Fin k0_t2_loop.trips, k0_off12 t = slotOff (par t.val).val := by decide +kernel
theorem off19_slot : ∀ t : Fin k0_t2_loop.trips, k0_off19 t = slotOff (par t.val).val := by decide +kernel
theorem off20_slot : ∀ t : Fin k0_t2_loop.trips, k0_off20 t = slotOff (par t.val).val := by decide +kernel
theorem off25_slot : ∀ t : Fin k0_t2_loop.trips, k0_off25 t = slotOff (par t.val).val := by decide +kernel
theorem off26_slot : ∀ t : Fin k0_t2_loop.trips, k0_off26 t = slotOff (par t.val).val := by decide +kernel
theorem off31_slot : ∀ t : Fin k0_t2_loop.trips, k0_off31 t = slotOff (par t.val).val := by decide +kernel
theorem off32_slot : ∀ t : Fin k0_t2_loop.trips, k0_off32 t = slotOff (par t.val).val := by decide +kernel
theorem off15_slot : ∀ t : Fin k0_t2_loop.trips, k0_off15 t = slotOff (par (t.val + 1)).val := by decide +kernel
theorem off36_slot : k0_off36 = slotOff 1 := by decide +kernel

/-! ## Devices -/

theorem dev7_org : ∀ c : Dev nD, k0_dev7 c = (org 0 c).val := by decide +kernel
theorem dev9_org : ∀ c : Dev nD, k0_dev9 c = (org 1 c).val := by decide +kernel
theorem dev11_org : ∀ c : Dev nD, k0_dev11 c = (org 2 c).val := by decide +kernel
theorem dev13_org : ∀ c : Dev nD, k0_dev13 c = (org 3 c).val := by decide +kernel
theorem dev8_tgt : ∀ c : Dev nD, k0_dev8 c = (tgt 0 c).val := by decide +kernel
theorem dev10_tgt : ∀ c : Dev nD, k0_dev10 c = (tgt 1 c).val := by decide +kernel
theorem dev12_tgt : ∀ c : Dev nD, k0_dev12 c = (tgt 2 c).val := by decide +kernel
theorem dev14_tgt : ∀ c : Dev nD, k0_dev14 c = (tgt 3 c).val := by decide +kernel
theorem dev3_tgt : ∀ c : Dev nD, k0_dev3 c = (tgt 0 c).val := by decide +kernel
theorem dev4_tgt : ∀ c : Dev nD, k0_dev4 c = (tgt 1 c).val := by decide +kernel
theorem dev5_tgt : ∀ c : Dev nD, k0_dev5 c = (tgt 2 c).val := by decide +kernel
theorem dev6_tgt : ∀ c : Dev nD, k0_dev6 c = (tgt 3 c).val := by decide +kernel
theorem dev1_left : ∀ c : Dev nD, k0_dev1 c = (shift c 15).val := by decide +kernel
theorem dev2_right : ∀ c : Dev nD, k0_dev2 c = (shift c 1).val := by decide +kernel

/-! ## Conditions -/

theorem cond1_iff : ∀ t : Fin k0_t2_loop.trips, k0_cond1 t = 1#1 ↔ t.val < 15 := by decide +kernel
theorem cond5_iff : ∀ t : Fin k0_t2_loop.trips, k0_cond5 t = 1#1 ↔ t.val < 15 := by decide +kernel
theorem cond9_iff : ∀ t : Fin k0_t2_loop.trips, k0_cond9 t = 1#1 ↔ t.val < 15 := by decide +kernel
theorem cond13_iff : ∀ t : Fin k0_t2_loop.trips, k0_cond13 t = 1#1 ↔ t.val < 15 := by decide +kernel
theorem cond2_iff : ∀ t : Fin k0_t2_loop.trips, k0_cond2 t = 1#1 ↔ 15 ≤ t.val := by decide +kernel
theorem cond6_iff : ∀ t : Fin k0_t2_loop.trips, k0_cond6 t = 1#1 ↔ 15 ≤ t.val := by decide +kernel
theorem cond10_iff : ∀ t : Fin k0_t2_loop.trips, k0_cond10 t = 1#1 ↔ 15 ≤ t.val := by decide +kernel
theorem cond14_iff : ∀ t : Fin k0_t2_loop.trips, k0_cond14 t = 1#1 ↔ 15 ≤ t.val := by decide +kernel
theorem cond3_iff : ∀ t : Fin k0_t2_loop.trips, k0_cond3 t = 1#1 ↔ t.val < 28 := by decide +kernel
theorem cond7_iff : ∀ t : Fin k0_t2_loop.trips, k0_cond7 t = 1#1 ↔ t.val < 28 := by decide +kernel
theorem cond11_iff : ∀ t : Fin k0_t2_loop.trips, k0_cond11 t = 1#1 ↔ t.val < 28 := by decide +kernel
theorem cond15_iff : ∀ t : Fin k0_t2_loop.trips, k0_cond15 t = 1#1 ↔ t.val < 28 := by decide +kernel
/-- The induction variable of the hops' loop. -/
abbrev ivw (t : Fin k0_t2_loop.trips) : BitVec 32 := Scf.iv 1#32 1#32 t
/-- The condition of the wait for a credit. -/
abbrev condW (t : Fin k0_t2_loop.trips) : BitVec 1 := Scalar.cmpi .ne (Scalar.extui (Scalar.cmpi .sge (ivw t) 2#32) : BitVec 32) 0#32
theorem condW_iff : ∀ t : Fin k0_t2_loop.trips, condW t = 1#1 ↔ 1 ≤ t.val := by decide +kernel
theorem trip_lt : ∀ t : Fin k0_t2_loop.trips, t.val < 29 := by decide +kernel
theorem trips2 : k0_t2_loop.trips = 29 := by decide +kernel

/-! ## Semaphores -/

/-- The semaphore of one slot, as the program names it: at the slot of the hop, -/
abbrev semAt (a : DmaSems sig S2) (t : Fin k0_t2_loop.trips) : DmaSem sig :=
  ((a.slice (Rect.unit (s := S2) (k0_off7 t) S1.size (k0_off7_inb t))).squeeze S_ squeezes_S1_S_).sem
/-- and at the slot of the next hop. -/
abbrev semNext (a : DmaSems sig S2) (t : Fin k0_t2_loop.trips) : DmaSem sig :=
  ((a.slice (Rect.unit (s := S2) (k0_off14 t) S1.size (k0_off14_inb t))).squeeze S_ squeezes_S1_S_).sem

theorem snd0_at : ∀ t : Fin k0_t2_loop.trips, csem (sndK 0 (par t.val)) = SemLoc.dma (semAt cc0_scratch2 t) := by decide +kernel
theorem snd1_at : ∀ t : Fin k0_t2_loop.trips, csem (sndK 1 (par t.val)) = SemLoc.dma (semAt cc0_scratch6 t) := by decide +kernel
theorem snd2_at : ∀ t : Fin k0_t2_loop.trips, csem (sndK 2 (par t.val)) = SemLoc.dma (semAt cc0_scratch10 t) := by decide +kernel
theorem snd3_at : ∀ t : Fin k0_t2_loop.trips, csem (sndK 3 (par t.val)) = SemLoc.dma (semAt cc0_scratch14 t) := by decide +kernel
theorem rcv0_at : ∀ t : Fin k0_t2_loop.trips, csem (rcvK 0 (par t.val)) = SemLoc.dma (semAt cc0_scratch3 t) := by decide +kernel
theorem rcv1_at : ∀ t : Fin k0_t2_loop.trips, csem (rcvK 1 (par t.val)) = SemLoc.dma (semAt cc0_scratch7 t) := by decide +kernel
theorem rcv2_at : ∀ t : Fin k0_t2_loop.trips, csem (rcvK 2 (par t.val)) = SemLoc.dma (semAt cc0_scratch11 t) := by decide +kernel
theorem rcv3_at : ∀ t : Fin k0_t2_loop.trips, csem (rcvK 3 (par t.val)) = SemLoc.dma (semAt cc0_scratch15 t) := by decide +kernel
theorem snd0_next : ∀ t : Fin k0_t2_loop.trips, csem (sndK 0 (par (t.val + 1))) = SemLoc.dma (semNext cc0_scratch2 t) := by decide +kernel
theorem snd1_next : ∀ t : Fin k0_t2_loop.trips, csem (sndK 1 (par (t.val + 1))) = SemLoc.dma (semNext cc0_scratch6 t) := by decide +kernel
theorem snd2_next : ∀ t : Fin k0_t2_loop.trips, csem (sndK 2 (par (t.val + 1))) = SemLoc.dma (semNext cc0_scratch10 t) := by decide +kernel
theorem snd3_next : ∀ t : Fin k0_t2_loop.trips, csem (sndK 3 (par (t.val + 1))) = SemLoc.dma (semNext cc0_scratch14 t) := by decide +kernel
theorem rcv0_next : ∀ t : Fin k0_t2_loop.trips, csem (rcvK 0 (par (t.val + 1))) = SemLoc.dma (semNext cc0_scratch3 t) := by decide +kernel
theorem rcv1_next : ∀ t : Fin k0_t2_loop.trips, csem (rcvK 1 (par (t.val + 1))) = SemLoc.dma (semNext cc0_scratch7 t) := by decide +kernel
theorem rcv2_next : ∀ t : Fin k0_t2_loop.trips, csem (rcvK 2 (par (t.val + 1))) = SemLoc.dma (semNext cc0_scratch11 t) := by decide +kernel
theorem rcv3_next : ∀ t : Fin k0_t2_loop.trips, csem (rcvK 3 (par (t.val + 1))) = SemLoc.dma (semNext cc0_scratch15 t) := by decide +kernel
/-- The semaphore of a fixed slot. -/
abbrev semFix (a : DmaSems sig S2) (s : Fin 2) (h : ∀ i, (![s.val] : Fin 1 → ℕ) i + S1.size i ≤ S2.size i) : DmaSem sig :=
  ((a.slice (Rect.unit (s := S2) ![s.val] S1.size h)).squeeze S_ squeezes_S1_S_).sem
theorem snd0_fix : ∀ s h, csem (sndK 0 s) = SemLoc.dma (semFix cc0_scratch2 s h) := by decide +kernel
theorem snd1_fix : ∀ s h, csem (sndK 1 s) = SemLoc.dma (semFix cc0_scratch6 s h) := by decide +kernel
theorem snd2_fix : ∀ s h, csem (sndK 2 s) = SemLoc.dma (semFix cc0_scratch10 s h) := by decide +kernel
theorem snd3_fix : ∀ s h, csem (sndK 3 s) = SemLoc.dma (semFix cc0_scratch14 s h) := by decide +kernel
theorem rcv0_fix : ∀ s h, csem (rcvK 0 s) = SemLoc.dma (semFix cc0_scratch3 s h) := by decide +kernel
theorem rcv1_fix : ∀ s h, csem (rcvK 1 s) = SemLoc.dma (semFix cc0_scratch7 s h) := by decide +kernel
theorem rcv2_fix : ∀ s h, csem (rcvK 2 s) = SemLoc.dma (semFix cc0_scratch11 s h) := by decide +kernel
theorem rcv3_fix : ∀ s h, csem (rcvK 3 s) = SemLoc.dma (semFix cc0_scratch15 s h) := by decide +kernel
theorem crd0_sem : csem (crdK 0) = SemLoc.reg cc0_scratch4.sem := by decide +kernel
theorem crd1_sem : csem (crdK 1) = SemLoc.reg cc0_scratch8.sem := by decide +kernel
theorem crd2_sem : csem (crdK 2) = SemLoc.reg cc0_scratch12.sem := by decide +kernel
theorem crd3_sem : csem (crdK 3) = SemLoc.reg cc0_scratch16.sem := by decide +kernel
theorem bar_sem : csem none = SemLoc.reg (SemArray.scalar (sig.barrier 0 rfl) : Sems sig S_).sem := by decide +kernel

end Cert.Ring
-- ==== Proof.Trip.lean ====
/-
# `Trip`: one trip of the loop of the hops

Each part of the trip takes its ring through its stages; together a trip takes all four rings from a started hop to the next.
-/
module

public import proofs.«01_k».proof.Proof.Stages
public import proofs.«01_k».proof.Proof.Facts

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

/-- The hops started in a trip, and the credits given, when the first `k` rings are done with it. -/
def hopA (t k : ℕ) : Fin 4 → ℕ := fun r => if r.val < k then t + 2 else t + 1
def hopB (t k : ℕ) : Fin 4 → ℕ := fun r => if r.val < k then min (t + 1) 28 else min t 28

theorem hopA_next (t : ℕ) (r : Fin 4) (k : ℕ) (hk : r.val = k) : Function.update (hopA t k) r (t + 1 + 1) = hopA t (k + 1) := by
  subst hk; funext r'
  by_cases h : r' = r
  · subst h; simp [hopA]
  · have h' : r'.val ≠ r.val := fun hh => h (Fin.ext hh)
    rw [Function.update_of_ne h]; unfold hopA; congr 1; exact propext (by omega)
theorem hopB_next (t : ℕ) (r : Fin 4) (k : ℕ) (hk : r.val = k) : Function.update (hopB t k) r (min (t + 1) 28) = hopB t (k + 1) := by
  subst hk; funext r'
  by_cases h : r' = r
  · subst h; simp [hopB]
  · have h' : r'.val ≠ r.val := fun hh => h (Fin.ext hh)
    rw [Function.update_of_ne h]; unfold hopB; congr 1; exact propext (by omega)
theorem hopA_le (t k : ℕ) : ∀ r, t + 1 ≤ hopA t k r := by intro r; unfold hopA; split <;> omega
theorem hopB_le (t k : ℕ) : ∀ r, min t 28 ≤ hopB t k r := by intro r; unfold hopB; split <;> omega
theorem hopA_self (t k : ℕ) (r : Fin 4) (hk : r.val = k) : hopA t k r = t + 1 := by unfold hopA; rw [if_neg (by omega)]
theorem hopB_self (t k : ℕ) (r : Fin 4) (hk : r.val = k) : hopB t k r = min t 28 := by unfold hopB; rw [if_neg (by omega)]
theorem hopA_end (t : ℕ) : hopA t 4 = hopA (t + 1) 0 := by funext r; have := r.isLt; simp [hopA]
theorem hopB_end (t : ℕ) : hopB t 4 = hopB (t + 1) 0 := by funext r; have := r.isLt; simp [hopB]

variable {arg0 : Memref sig .tc .vmem S4096x256 .fp8e4m3} {harg0 : arg0.IsWhole} {arg1 : Memref sig .tc .vmem S256x2048 .fp8e4m3} {harg1 : arg1.IsWhole}
variable {arg2 : Memref sig .tc .smem S1 .f32} {harg2 : arg2.IsWhole} {arg3 : Memref sig .tc .smem S1 .f32} {harg3 : arg3.IsWhole}
variable {arg4 : Memref sig .tc .vmem S4096x2048 .f32} {harg4 : arg4.IsWhole}

/-- Every block and every slot counts the same units. -/
theorem acc_credit (off : Fin 2 → ℕ) (inb : ∀ i, off i + S256x512.size i ≤ S4096x2048.size i) (st) :
    (accM.slice (Rect.unit (s := S4096x2048) off S256x512.size inb) st).view.dmaCredit = N := rfl
theorem slot_credit (r : Fin 4) (off : Fin 3 → ℕ) (inb : ∀ i, off i + S1x256x512.size i ≤ S2x256x512.size i) (st) :
    (((commM r).slice (Rect.unit (s := S2x256x512) off S1x256x512.size inb) st).squeeze S256x512 squeezes_S1x256x512_S256x512).view.dmaCredit = N := by
  fin_cases r <;> rfl

/-- The end of a part. -/
theorem wp_done {α : Type} {Q : α → sProp (MT nD τ sig ℕ (Elt F) ℕ UU ℕ)} (c : Dev nD) (a : α) : Q a ⊢ WP c (Prog.ret a) Q := by
  show Q a ⊢ iprop(|={Set.univ}=> Q a)
  exact fupd_intro

/-- Part 1 of a trip: ring 0 from stage 0 on. -/
theorem wp_part1 (c : Dev nD) (t : Fin k0_t2_loop.trips) (v2 v7 : BitVec 32)
    {Q : _ → sProp (MT nD τ sig ℕ (Elt F) ℕ UU ℕ)} :
    iprop(records x w κ κs ∗ st0 x w 0 c t.val ∗ owesX c (owed c (hopA t.val 0) (hopB t.val 0)))
      ⊢ iprop(((st3 x w 0 c t.val ∗ owesX c (owed c (hopA t.val 0) (hopB t.val 0))) -∗ Q ⟨ivw t, Scalar.subi (ivw t) 1#32, Scalar.remsi (Scalar.subi (ivw t) 1#32) 2#32, 15#32⟩)
        -∗ WP c (k0_part1 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v7 1#32 1#32 t) Q) := by
  rw [k0_part1_eq_skeleton]
  unfold k0_part1_skel
  have ht : t.val < 30 := by have := trip_lt t; omega
  have hg : t.val + 1 < 30 := by have := trip_lt t; omega
  simp only [semSignalWord, semWaitWord, Prog.lift, Prog.bind_op, Prog.bind_ret, Prog.pure_eq_ret]
  iintro ⟨#HR, H, HO⟩ Hk
  iapply (to_st1 x w κ κs 0 c t.val ht _ _ (snd0_at t) (acc_credit _ _ _)) $$ [H HO]
  · isplitl []; · iexact HR
    isplitl [H]; · iexact H
    iexact HO
  iintro ⟨H, HO⟩
  iapply (to_st2 x w κ κs 0 c t.val ht _ _ (hopA_le _ _) (hopB_le _ _) (rcv0_at t) (slot_credit 0 _ _ _)) $$ [H HO]
  · isplitl []; · iexact HR
    isplitl [H]; · iexact H
    iexact HO
  iintro ⟨H, HO⟩
  iapply (to_st3 x w 0 c t.val (cond1_iff t) (off10_blk c t) (off11_slot t) rfl) $$ H
  iintro H
  iapply (wp_done (F := F) c _)
  iapply Hk
  isplitl [H]; · iexact H
  iexact HO

/-- Part 2 of a trip: ring 0 from stage 3 on. -/
theorem wp_part2 (c : Dev nD) (t : Fin k0_t2_loop.trips) (v2 v5 v7 v a v' : BitVec 32)
    {Q : _ → sProp (MT nD τ sig ℕ (Elt F) ℕ UU ℕ)} :
    iprop(records x w κ κs ∗ st3 x w 0 c t.val ∗ owesX c (owed c (hopA t.val 0) (hopB t.val 0)))
      ⊢ iprop(((st0 x w 0 c (t.val + 1) ∗ owesX c (owed c (hopA t.val 1) (hopB t.val 1))) -∗ ∀ z, Q z)
        -∗ WP c (k0_part2 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7 t (ivw t) v a v') Q) := by
  rw [k0_part2_eq_skeleton]
  unfold k0_part2_skel
  have ht : t.val < 30 := by have := trip_lt t; omega
  have hg : t.val + 1 < 30 := by have := trip_lt t; omega
  simp only [semSignalWord, semWaitWord, Prog.lift, Prog.bind_op, Prog.bind_ret, Prog.pure_eq_ret]
  iintro ⟨#HR, H, HO⟩ Hk
  iapply (to_st4 x w 0 c t.val (cond2_iff t) (off13_blk c t) (off12_slot t) rfl) $$ H
  iintro H
  iapply (to_st5 x w κ κs 0 c t.val _ _ (hopB_self _ _ _ rfl) (cond3_iff t) (dev7_org c) crd0_sem rfl) $$ [H HO]
  · isplitl []; · iexact HR
    isplitl [H]; · iexact H
    iexact HO
  iintro ⟨H, HO⟩
  rw [hopB_next _ _ _ rfl]
  iapply (to_st6 x w κ κs 0 c t.val (trip_lt t) _ _ (hopA_le _ _) (hopB_le _ _) (condW_iff t) crd0_sem rfl) $$ [H HO]
  · isplitl []; · iexact HR
    isplitl [H]; · iexact H
    iexact HO
  iintro ⟨H, HO⟩
  iapply (to_st0 x w κ κs 0 c (t.val + 1) hg _ _ (hopA_self _ _ _ rfl) (off16_blk c t) (off15_slot t) (dev8_tgt c) (snd0_next t) (rcv0_next t)) $$ [H HO]
  · isplitl []; · iexact HR
    isplitl [H]; · iexact H
    iexact HO
  iintro ⟨H, HO⟩
  rw [hopA_next _ _ _ rfl]
  ihave Hk := Hk $$ [H HO]
  · isplitl [H]; · iexact H
    iexact HO
  iapply (wp_done (F := F) c _)
  iapply Hk

/-- Part 3 of a trip: ring 1 from stage 0 on. -/
theorem wp_part3 (c : Dev nD) (t : Fin k0_t2_loop.trips) (v2 v7 v v' : BitVec 32)
    {Q : _ → sProp (MT nD τ sig ℕ (Elt F) ℕ UU ℕ)} :
    iprop(records x w κ κs ∗ st0 x w 1 c t.val ∗ owesX c (owed c (hopA t.val 1) (hopB t.val 1)))
      ⊢ iprop(((st4 x w 1 c t.val ∗ owesX c (owed c (hopA t.val 1) (hopB t.val 1))) -∗ ∀ z, Q z)
        -∗ WP c (k0_part3 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v7 t (ivw t) v v') Q) := by
  rw [k0_part3_eq_skeleton]
  unfold k0_part3_skel
  have ht : t.val < 30 := by have := trip_lt t; omega
  have hg : t.val + 1 < 30 := by have := trip_lt t; omega
  simp only [semSignalWord, semWaitWord, Prog.lift, Prog.bind_op, Prog.bind_ret, Prog.pure_eq_ret]
  iintro ⟨#HR, H, HO⟩ Hk
  iapply (to_st1 x w κ κs 1 c t.val ht _ _ (snd1_at t) (acc_credit _ _ _)) $$ [H HO]
  · isplitl []; · iexact HR
    isplitl [H]; · iexact H
    iexact HO
  iintro ⟨H, HO⟩
  iapply (to_st2 x w κ κs 1 c t.val ht _ _ (hopA_le _ _) (hopB_le _ _) (rcv1_at t) (slot_credit 1 _ _ _)) $$ [H HO]
  · isplitl []; · iexact HR
    isplitl [H]; · iexact H
    iexact HO
  iintro ⟨H, HO⟩
  iapply (to_st3 x w 1 c t.val (cond5_iff t) (off18_blk c t) (off19_slot t) rfl) $$ H
  iintro H
  iapply (to_st4 x w 1 c t.val (cond6_iff t) (off21_blk c t) (off20_slot t) rfl) $$ H
  iintro H
  ihave Hk := Hk $$ [H HO]
  · isplitl [H]; · iexact H
    iexact HO
  iapply (wp_done (F := F) c _)
  iapply Hk

/-- Part 4 of a trip: ring 1 from stage 4 on. -/
theorem wp_part4 (c : Dev nD) (t : Fin k0_t2_loop.trips) (v2 v5 v7 v : BitVec 32)
    {Q : _ → sProp (MT nD τ sig ℕ (Elt F) ℕ UU ℕ)} :
    iprop(records x w κ κs ∗ st4 x w 1 c t.val ∗ owesX c (owed c (hopA t.val 1) (hopB t.val 1)))
      ⊢ iprop(((st0 x w 1 c (t.val + 1) ∗ owesX c (owed c (hopA t.val 2) (hopB t.val 2))) -∗ ∀ z, Q z)
        -∗ WP c (k0_part4 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7 t (ivw t) v) Q) := by
  rw [k0_part4_eq_skeleton]
  unfold k0_part4_skel
  have ht : t.val < 30 := by have := trip_lt t; omega
  have hg : t.val + 1 < 30 := by have := trip_lt t; omega
  simp only [semSignalWord, semWaitWord, Prog.lift, Prog.bind_op, Prog.bind_ret, Prog.pure_eq_ret]
  iintro ⟨#HR, H, HO⟩ Hk
  iapply (to_st5 x w κ κs 1 c t.val _ _ (hopB_self _ _ _ rfl) (cond7_iff t) (dev9_org c) crd1_sem rfl) $$ [H HO]
  · isplitl []; · iexact HR
    isplitl [H]; · iexact H
    iexact HO
  iintro ⟨H, HO⟩
  rw [hopB_next _ _ _ rfl]
  iapply (to_st6 x w κ κs 1 c t.val (trip_lt t) _ _ (hopA_le _ _) (hopB_le _ _) (condW_iff t) crd1_sem rfl) $$ [H HO]
  · isplitl []; · iexact HR
    isplitl [H]; · iexact H
    iexact HO
  iintro ⟨H, HO⟩
  iapply (to_st0 x w κ κs 1 c (t.val + 1) hg _ _ (hopA_self _ _ _ rfl) (off22_blk c t) (off15_slot t) (dev10_tgt c) (snd1_next t) (rcv1_next t)) $$ [H HO]
  · isplitl []; · iexact HR
    isplitl [H]; · iexact H
    iexact HO
  iintro ⟨H, HO⟩
  rw [hopA_next _ _ _ rfl]
  ihave Hk := Hk $$ [H HO]
  · isplitl [H]; · iexact H
    iexact HO
  iapply (wp_done (F := F) c _)
  iapply Hk

/-- Part 5 of a trip: ring 2 from stage 0 on. -/
theorem wp_part5 (c : Dev nD) (t : Fin k0_t2_loop.trips) (v2 v5 v7 v v' : BitVec 32) (v1 : BitVec 1)
    {Q : _ → sProp (MT nD τ sig ℕ (Elt F) ℕ UU ℕ)} :
    iprop(records x w κ κs ∗ st0 x w 2 c t.val ∗ owesX c (owed c (hopA t.val 2) (hopB t.val 2)))
      ⊢ iprop(((st5 x w 2 c t.val ∗ owesX c (owed c (hopA t.val 2) (hopB t.val 3))) -∗ Q (condW t))
        -∗ WP c (k0_part5 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7 t (ivw t) v1 v v') Q) := by
  rw [k0_part5_eq_skeleton]
  unfold k0_part5_skel
  have ht : t.val < 30 := by have := trip_lt t; omega
  have hg : t.val + 1 < 30 := by have := trip_lt t; omega
  simp only [semSignalWord, semWaitWord, Prog.lift, Prog.bind_op, Prog.bind_ret, Prog.pure_eq_ret]
  iintro ⟨#HR, H, HO⟩ Hk
  iapply (to_st1 x w κ κs 2 c t.val ht _ _ (snd2_at t) (acc_credit _ _ _)) $$ [H HO]
  · isplitl []; · iexact HR
    isplitl [H]; · iexact H
    iexact HO
  iintro ⟨H, HO⟩
  iapply (to_st2 x w κ κs 2 c t.val ht _ _ (hopA_le _ _) (hopB_le _ _) (rcv2_at t) (slot_credit 2 _ _ _)) $$ [H HO]
  · isplitl []; · iexact HR
    isplitl [H]; · iexact H
    iexact HO
  iintro ⟨H, HO⟩
  iapply (to_st3 x w 2 c t.val (cond9_iff t) (off24_blk c t) (off25_slot t) rfl) $$ H
  iintro H
  iapply (to_st4 x w 2 c t.val (cond10_iff t) (off27_blk c t) (off26_slot t) rfl) $$ H
  iintro H
  iapply (to_st5 x w κ κs 2 c t.val _ _ (hopB_self _ _ _ rfl) (cond11_iff t) (dev11_org c) crd2_sem rfl) $$ [H HO]
  · isplitl []; · iexact HR
    isplitl [H]; · iexact H
    iexact HO
  iintro ⟨H, HO⟩
  rw [hopB_next _ _ _ rfl]
  iapply (wp_done (F := F) c _)
  iapply Hk
  isplitl [H]; · iexact H
  iexact HO

/-- Part 6 of a trip: ring 2 from stage 5 on. -/
theorem wp_part6 (c : Dev nD) (t : Fin k0_t2_loop.trips) (v2 v5 : BitVec 32)
    {Q : _ → sProp (MT nD τ sig ℕ (Elt F) ℕ UU ℕ)} :
    iprop(records x w κ κs ∗ st5 x w 2 c t.val ∗ owesX c (owed c (hopA t.val 2) (hopB t.val 3)))
      ⊢ iprop(((st0 x w 2 c (t.val + 1) ∗ owesX c (owed c (hopA t.val 3) (hopB t.val 3))) -∗ ∀ z, Q z)
        -∗ WP c (k0_part6 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 t (ivw t) (condW t)) Q) := by
  rw [k0_part6_eq_skeleton]
  unfold k0_part6_skel
  have ht : t.val < 30 := by have := trip_lt t; omega
  have hg : t.val + 1 < 30 := by have := trip_lt t; omega
  simp only [semSignalWord, semWaitWord, Prog.lift, Prog.bind_op, Prog.bind_ret, Prog.pure_eq_ret]
  iintro ⟨#HR, H, HO⟩ Hk
  iapply (to_st6 x w κ κs 2 c t.val (trip_lt t) _ _ (hopA_le _ _) (hopB_le _ _) (condW_iff t) crd2_sem rfl) $$ [H HO]
  · isplitl []; · iexact HR
    isplitl [H]; · iexact H
    iexact HO
  iintro ⟨H, HO⟩
  iapply (to_st0 x w κ κs 2 c (t.val + 1) hg _ _ (hopA_self _ _ _ rfl) (off28_blk c t) (off15_slot t) (dev12_tgt c) (snd2_next t) (rcv2_next t)) $$ [H HO]
  · isplitl []; · iexact HR
    isplitl [H]; · iexact H
    iexact HO
  iintro ⟨H, HO⟩
  rw [hopA_next _ _ _ rfl]
  ihave Hk := Hk $$ [H HO]
  · isplitl [H]; · iexact H
    iexact HO
  iapply (wp_done (F := F) c _)
  iapply Hk

/-- Part 7 of a trip: ring 3 from stage 0 on. -/
theorem wp_part7 (c : Dev nD) (t : Fin k0_t2_loop.trips) (v2 v5 v7 v : BitVec 32)
    {Q : _ → sProp (MT nD τ sig ℕ (Elt F) ℕ UU ℕ)} :
    iprop(records x w κ κs ∗ st0 x w 3 c t.val ∗ owesX c (owed c (hopA t.val 3) (hopB t.val 3)))
      ⊢ iprop(((st6 x w 3 c (t.val + 1) ∗ owesX c (owed c (hopA t.val 3) (hopB t.val 4))) -∗ ∀ z, Q z)
        -∗ WP c (k0_part7 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7 t (ivw t) v) Q) := by
  rw [k0_part7_eq_skeleton]
  unfold k0_part7_skel
  have ht : t.val < 30 := by have := trip_lt t; omega
  have hg : t.val + 1 < 30 := by have := trip_lt t; omega
  simp only [semSignalWord, semWaitWord, Prog.lift, Prog.bind_op, Prog.bind_ret, Prog.pure_eq_ret]
  iintro ⟨#HR, H, HO⟩ Hk
  iapply (to_st1 x w κ κs 3 c t.val ht _ _ (snd3_at t) (acc_credit _ _ _)) $$ [H HO]
  · isplitl []; · iexact HR
    isplitl [H]; · iexact H
    iexact HO
  iintro ⟨H, HO⟩
  iapply (to_st2 x w κ κs 3 c t.val ht _ _ (hopA_le _ _) (hopB_le _ _) (rcv3_at t) (slot_credit 3 _ _ _)) $$ [H HO]
  · isplitl []; · iexact HR
    isplitl [H]; · iexact H
    iexact HO
  iintro ⟨H, HO⟩
  iapply (to_st3 x w 3 c t.val (cond13_iff t) (off30_blk c t) (off31_slot t) rfl) $$ H
  iintro H
  iapply (to_st4 x w 3 c t.val (cond14_iff t) (off33_blk c t) (off32_slot t) rfl) $$ H
  iintro H
  iapply (to_st5 x w κ κs 3 c t.val _ _ (hopB_self _ _ _ rfl) (cond15_iff t) (dev13_org c) crd3_sem rfl) $$ [H HO]
  · isplitl []; · iexact HR
    isplitl [H]; · iexact H
    iexact HO
  iintro ⟨H, HO⟩
  rw [hopB_next _ _ _ rfl]
  iapply (to_st6 x w κ κs 3 c t.val (trip_lt t) _ _ (hopA_le _ _) (hopB_le _ _) (condW_iff t) crd3_sem rfl) $$ [H HO]
  · isplitl []; · iexact HR
    isplitl [H]; · iexact H
    iexact HO
  iintro ⟨H, HO⟩
  ihave Hk := Hk $$ [H HO]
  · isplitl [H]; · iexact H
    iexact HO
  iapply (wp_done (F := F) c _)
  iapply Hk

/-- The state between two trips: every ring has hop `t` started. -/
def hops (c : Dev nD) (t : ℕ) : sProp 𝕄 :=
  iprop((st0 x w 0 c t ∗ st0 x w 1 c t ∗ st0 x w 2 c t ∗ st0 x w 3 c t) ∗ owesX c (owed c (hopA t 0) (hopB t 0)))

/-- A trip takes every ring from hop `t` started to hop `t + 1` started. -/
theorem wp_trip (c : Dev nD) (t : Fin k0_t2_loop.trips) (v2 v5 v7 : BitVec 32) (u : Unit) {Q : Unit → sProp (MT nD τ sig ℕ (Elt F) ℕ UU ℕ)} :
    iprop(records x w κ κs ∗ hops x w c t.val)
      ⊢ iprop((hops x w c (t.val + 1) -∗ Q ⟨⟩) -∗ WP c (k0_t2_body arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7 t u) Q) := by
  unfold k0_t2_body hops
  have hg : t.val + 1 < 30 := by have := trip_lt t; omega
  simp only [Prog.lift, Prog.bind_op, Prog.bind_ret, Prog.pure_eq_ret]
  simp only [wp_bind]
  iintro ⟨#HR, ⟨H0, H1, H2, H3⟩, HO⟩ Hk
  iapply (wp_part1 x w κ κs c t v2 v7) $$ [H0 HO]
  · isplitl []; · iexact HR
    isplitl [H0]; · iexact H0
    iexact HO
  iintro ⟨H0, HO⟩
  iapply (wp_part2 x w κ κs c t v2 v5 v7 _ _ _) $$ [H0 HO]
  · isplitl []; · iexact HR
    isplitl [H0]; · iexact H0
    iexact HO
  iintro ⟨H0, HO⟩ %z
  iapply (wp_part3 x w κ κs c t v2 v7 _ _) $$ [H1 HO]
  · isplitl []; · iexact HR
    isplitl [H1]; · iexact H1
    iexact HO
  iintro ⟨H1, HO⟩ %z
  iapply (wp_part4 x w κ κs c t v2 v5 v7 _) $$ [H1 HO]
  · isplitl []; · iexact HR
    isplitl [H1]; · iexact H1
    iexact HO
  iintro ⟨H1, HO⟩ %z
  iapply (wp_part5 x w κ κs c t v2 v5 v7 _ _ _) $$ [H2 HO]
  · isplitl []; · iexact HR
    isplitl [H2]; · iexact H2
    iexact HO
  iintro ⟨H2, HO⟩
  iapply (wp_part6 x w κ κs c t v2 v5) $$ [H2 HO]
  · isplitl []; · iexact HR
    isplitl [H2]; · iexact H2
    iexact HO
  iintro ⟨H2, HO⟩ %z
  iapply (wp_part7 x w κ κs c t v2 v5 v7 _) $$ [H3 HO]
  · isplitl []; · iexact HR
    isplitl [H3]; · iexact H3
    iexact HO
  iintro ⟨H3, HO⟩ %z
  rcases z with ⟨v418, v420⟩
  iapply (to_st0 x w κ κs 3 c (t.val + 1) hg (hopA t.val 3) (hopB t.val 4) (hopA_self _ _ _ rfl) (off34_blk c t) (off15_slot t) (dev14_tgt c) (snd3_next t) (rcv3_next t)) $$ [H3 HO]
  · isplitl []; · iexact HR
    isplitl [H3]; · iexact H3
    iexact HO
  iintro ⟨H3, HO⟩
  rw [hopA_next t.val 3 3 rfl, hopA_end, hopB_end]
  iapply (wp_done (F := F) c _)
  iapply Hk
  isplitr [HO]
  · isplitl [H0]; · iexact H0
    isplitl [H1]; · iexact H1
    isplitl [H2]; · iexact H2
    iexact H3
  iexact HO

end Cert.Ring

end
-- ==== Proof.Rows.lean ====
/-
# `Rows`: the two loops over row blocks

The products fill the accumulator one row block at a time, and the epilogue fills the output one row block at a time.
-/
module

public import proofs.«01_k».proof.Proof.Trip

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)

/-- The staged output. -/
abbrev outM : Memref sig .tc .vmem S4096x2048 .f32 := Memref.whole cc0_stg4_0
/-- Row block `p` of the accumulator, -/
abbrev accRow (p : Fin 16) : View sig .tc .vmem S256x2048 .bf16 :=
  accM.access (Rect.unit (s := S4096x2048) (rowOff p.val) S256x2048.size (rowOff_inb p))
/-- and of the output. -/
abbrev outRow (p : Fin 16) : View sig .tc .vmem S256x2048 .f32 :=
  outM.access (Rect.unit (s := S4096x2048) (rowOff p.val) S256x2048.size (rowOff_inb p))

/-- An index is its place inside its row block. -/
theorem emb_rowIn (p : Fin 16) (i : S4096x2048.Idx) (h : (i 0).val / 256 = p.val) :
    (Rect.unit (s := S4096x2048) (rowOff p.val) S256x2048.size (rowOff_inb p)).emb (rowIn i) = i := by
  funext a
  apply Fin.ext
  rw [Rect.emb_apply]
  fin_cases a
  · show 256 * p.val + 1 * ((i 0).val % 256) = (i 0).val; omega
  · show 0 + 1 * (i 1).val = (i 1).val; omega

theorem mem_row (p : Fin 16) (i : S4096x2048.Idx) :
    i ∈ (Rect.unit (s := S4096x2048) (rowOff p.val) S256x2048.size (rowOff_inb p)).set ↔ (i 0).val / 256 = p.val := by
  rw [Rect.mem_set_unit]
  constructor
  · intro h
    have h0 := h 0
    have e0 : rowOff p.val 0 = 256 * p.val := rfl
    have e2 : S256x2048.size 0 = 256 := rfl
    omega
  · intro h a
    fin_cases a
    · show 256 * p.val ≤ (i 0).val ∧ (i 0).val < 256 * p.val + 256; omega
    · have : (i 1).val < 2048 := (i 1).isLt
      show 0 ≤ (i 1).val ∧ (i 1).val < 0 + 2048; omega

/-- Writing a row block of the accumulator changes that row block, -/
theorem accRow_write (p : Fin 16) (f : Acc F) (v : Vec F S256x2048 .bf16) (i : S4096x2048.Idx) :
    (accRow p).write (Elt F) f v Finset.univ i = if (i 0).val / 256 = p.val then v (rowIn i) else f i := by
  split
  next h =>
    have e : (accRow p).emb (rowIn i) = i := emb_rowIn p i h
    have := (accRow p).write_emb_of_mem (Val := Elt F) f v (Finset.mem_univ (rowIn i))
    rw [e] at this
    exact this
  next h =>
    refine View.write_of_not_mem (Val := Elt F) _ _ _ (fun hm => h ?_)
    rw [View.setOn_univ, show (accRow p).set = _ from View.set_slice_whole _ _] at hm
    exact (mem_row p i).mp hm
/-- and likewise of the output. -/
theorem outRow_write (p : Fin 16) (f : Vec F S4096x2048 .f32) (v : Vec F S256x2048 .f32) (i : S4096x2048.Idx) :
    (outRow p).write (Elt F) f v Finset.univ i = if (i 0).val / 256 = p.val then v (rowIn i) else f i := by
  split
  next h =>
    have e : (outRow p).emb (rowIn i) = i := emb_rowIn p i h
    have := (outRow p).write_emb_of_mem (Val := Elt F) f v (Finset.mem_univ (rowIn i))
    rw [e] at this
    exact this
  next h =>
    refine View.write_of_not_mem (Val := Elt F) _ _ _ (fun hm => h ?_)
    rw [View.setOn_univ, show (outRow p).set = _ from View.set_slice_whole _ _] at hm
    exact (mem_row p i).mp hm

/-- The accumulator with the products of the first `k` row blocks. -/
def gemmTo (c : Dev nD) (k : ℕ) : sProp 𝕄 :=
  iprop(∃ f : Acc F, ⌜∀ i : S4096x2048.Idx, (i 0).val / 256 < k → f i = gemm x w c i⌝ ∗ accPts c Finset.univ f)
/-- The staged `x`. -/
def xPts (c : Dev nD) : sProp 𝕄 := xM.view.loc (c : Thread nD τ) ↦{fullShare} (x c)

/-- What the epilogue writes, from the scale `s` and the accumulator `f`. -/
def outOf (s : F .f32) (f : Acc F) : Vec F S4096x2048 .f32 := fun i => k0_pay1 s ((accRow (rowBlk i)).read (Elt F) f) (rowIn i)
/-- The output with its first `k` row blocks. -/
def outTo (s : F .f32) (f : Acc F) (c : Dev nD) (k : ℕ) : sProp 𝕄 :=
  iprop(∃ g : Vec F S4096x2048 .f32, ⌜∀ i : S4096x2048.Idx, (i 0).val / 256 < k → g i = outOf s f i⌝ ∗ (outM.view.loc (c : Thread nD τ) ↦{fullShare} g))

/-- The steps of a trip of the products: load a row block of `x`, load and store one of the accumulator. -/
theorem wp_gemmCore (c : Dev nD) (t : ℕ) (ht : t < 16) {off1 off2 : Fin 2 → ℕ} (e1 : off1 = rowOff t) (e2 : off2 = rowOff t)
    {i1 : ∀ a, off1 a + S256x256.size a ≤ S4096x256.size a} {i2 : ∀ a, off2 a + S256x2048.size a ≤ S4096x2048.size a}
    {h1 : xM.view.LoadsAt (Rect.unit (s := S4096x256) off1 S256x256.size i1).toLoadRect}
    {h2 : accM.view.LoadsAt (Rect.unit (s := S4096x2048) off2 S256x2048.size i2).toLoadRect}
    {hx : (accM.access (Rect.unit (s := S4096x2048) off2 S256x2048.size i2)).Stores Finset.univ}
    {hm : (Finset.univ : Finset (Rect.unit (s := S4096x2048) off2 S256x2048.size i2).shape.Idx) = Finset.univ ∨ ∀ a, (Rect.unit (s := S4096x2048) off2 S256x2048.size i2).stride a = 1}
    {α : Type} {Q : α → sProp (MT nD τ sig ℕ (Elt F) ℕ UU ℕ)} {kk : Prog (TpuEff nD τ sig (Elt F) Λ₀ .tc) α} :
    iprop(gemmTo x w c t ∗ xPts x c)
      ⊢ iprop(((gemmTo x w c (t + 1) ∗ xPts x c) -∗ WP c kk Q)
        -∗ WP c (.op (.load xM (Rect.unit (s := S4096x256) off1 S256x256.size i1).toLoadRect h1) (fun v =>
            .op (.load accM (Rect.unit (s := S4096x2048) off2 S256x2048.size i2).toLoadRect h2) (fun _ =>
            .op (.store accM (Rect.unit (s := S4096x2048) off2 S256x2048.size i2) (k0_pay10 (w c) v) Finset.univ hx hm) (fun _ => kk)))) Q) := by
  subst e1 e2
  unfold gemmTo xPts accPts
  iintro ⟨⟨%f, %hf, Ha⟩, Hx⟩ Hk
  iapply (wp_load_rect 𝒱₀ (c : Thread nD τ) none Set.univ (m := xM) (r := Rect.unit (s := S4096x256) (rowOff t) S256x256.size i1)
    (S := Finset.univ) (f := x c) (Finset.subset_univ _)) $$ Hx
  iintro Hx
  iapply (wp_load_rect 𝒱₀ (c : Thread nD τ) none Set.univ (m := accM) (r := Rect.unit (s := S4096x2048) (rowOff t) S256x2048.size i2)
    (S := Finset.univ) (f := f) (Finset.subset_univ _)) $$ Ha
  iintro Ha
  iapply (wp_store 𝒱₀ (c : Thread nD τ) none Set.univ (m := accM) (r := Rect.unit (s := S4096x2048) (rowOff t) S256x2048.size i2)
    (w := k0_pay10 (w c) (xRows (x c) ⟨t, ht⟩)) (S := Finset.univ) (f := f) (Finset.subset_univ _)) $$ Ha
  iintro Ha
  iapply Hk
  isplitl [Ha]
  · iexists (accRow ⟨t, ht⟩).write (Elt F) f (k0_pay10 (w c) (xRows (x c) ⟨t, ht⟩)) Finset.univ
    isplitl []
    · ipureintro
      intro i hi
      rw [accRow_write]
      split
      next h => unfold gemm; rw [show rowBlk i = ⟨t, ht⟩ from Fin.ext h]
      next h => exact hf i (by have : (i 0).val / 256 ≠ t := h; omega)
    iexact Ha
  iexact Hx

/-- The steps of a trip of the epilogue: load a row block of the accumulator, load and store one of the output. -/
theorem wp_outCore (s : F .f32) (f : Acc F) (c : Dev nD) (t : ℕ) (ht : t < 16) {off : Fin 2 → ℕ} (e : off = rowOff t)
    {i1 : ∀ a, off a + S256x2048.size a ≤ S4096x2048.size a}
    {h1 : accM.view.LoadsAt (Rect.unit (s := S4096x2048) off S256x2048.size i1).toLoadRect}
    {h2 : outM.view.LoadsAt (Rect.unit (s := S4096x2048) off S256x2048.size i1).toLoadRect}
    {hx : (outM.access (Rect.unit (s := S4096x2048) off S256x2048.size i1)).Stores Finset.univ}
    {hm : (Finset.univ : Finset (Rect.unit (s := S4096x2048) off S256x2048.size i1).shape.Idx) = Finset.univ ∨ ∀ a, (Rect.unit (s := S4096x2048) off S256x2048.size i1).stride a = 1}
    {α : Type} {Q : α → sProp (MT nD τ sig ℕ (Elt F) ℕ UU ℕ)} {kk : Prog (TpuEff nD τ sig (Elt F) Λ₀ .tc) α} :
    iprop(outTo s f c t ∗ accPts c Finset.univ f)
      ⊢ iprop(((outTo s f c (t + 1) ∗ accPts c Finset.univ f) -∗ WP c kk Q)
        -∗ WP c (.op (.load accM (Rect.unit (s := S4096x2048) off S256x2048.size i1).toLoadRect h1) (fun v =>
            .op (.load outM (Rect.unit (s := S4096x2048) off S256x2048.size i1).toLoadRect h2) (fun _ =>
            .op (.store outM (Rect.unit (s := S4096x2048) off S256x2048.size i1) (k0_pay1 s v) Finset.univ hx hm) (fun _ => kk)))) Q) := by
  subst e
  unfold outTo accPts
  iintro ⟨⟨%g, %hg, Ho⟩, Ha⟩ Hk
  iapply (wp_load_rect 𝒱₀ (c : Thread nD τ) none Set.univ (m := accM) (r := Rect.unit (s := S4096x2048) (rowOff t) S256x2048.size i1)
    (S := Finset.univ) (f := f) (Finset.subset_univ _)) $$ Ha
  iintro Ha
  iapply (wp_load_rect 𝒱₀ (c : Thread nD τ) none Set.univ (m := outM) (r := Rect.unit (s := S4096x2048) (rowOff t) S256x2048.size i1)
    (S := Finset.univ) (f := g) (Finset.subset_univ _)) $$ Ho
  iintro Ho
  iapply (wp_store 𝒱₀ (c : Thread nD τ) none Set.univ (m := outM) (r := Rect.unit (s := S4096x2048) (rowOff t) S256x2048.size i1)
    (w := k0_pay1 s ((accRow ⟨t, ht⟩).read (Elt F) f)) (S := Finset.univ) (f := g) (Finset.subset_univ _)) $$ Ho
  iintro Ho
  iapply Hk
  isplitl [Ho]
  · iexists (outRow ⟨t, ht⟩).write (Elt F) g (k0_pay1 s ((accRow ⟨t, ht⟩).read (Elt F) f)) Finset.univ
    isplitl []
    · ipureintro
      intro i hi
      rw [outRow_write]
      split
      next h => unfold outOf; rw [show rowBlk i = ⟨t, ht⟩ from Fin.ext h]
      next h => exact hg i (by have : (i 0).val / 256 ≠ t := h; omega)
    iexact Ho
  iexact Ha

variable {harg0 : (xM).IsWhole} {arg1 : Memref sig .tc .vmem S256x2048 .fp8e4m3} {harg1 : arg1.IsWhole}
variable {arg2 : Memref sig .tc .smem S1 .f32} {harg2 : arg2.IsWhole} {arg3 : Memref sig .tc .smem S1 .f32} {harg3 : arg3.IsWhole}
variable {arg4 : Memref sig .tc .vmem S4096x2048 .f32} {harg4 : arg4.IsWhole}
variable {arg0' : Memref sig .tc .vmem S4096x256 .fp8e4m3} {harg0' : arg0'.IsWhole} {houtM : (outM).IsWhole}

theorem trips1 : k0_t1_loop.trips = 16 := by decide +kernel
theorem trips3 : k0_t3_loop.trips = 16 := by decide +kernel

/-- A trip of the products. -/
theorem wp_gemmTrip (c : Dev nD) (t : Fin k0_t1_loop.trips) (u : Unit) :
    iprop(gemmTo x w c t.val ∗ xPts x c)
      ⊢ WP c (k0_t1_body xM harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 (w c) t u)
        (fun _ => iprop(gemmTo x w c (t.val + 1) ∗ xPts x c)) := by
  have ht : t.val < 16 := lt_of_lt_of_eq t.isLt trips1
  unfold k0_t1_body
  simp only [Prog.lift, Prog.bind_op, Prog.bind_ret, Prog.pure_eq_ret]
  iintro H
  iapply (wp_gemmCore x w c t.val ht (k0_off1_eq t) (k0_off2_eq t)) $$ H
  iintro H
  iapply (wp_done (F := F) c _)
  iexact H

/-- A trip of the epilogue. -/
theorem wp_outTrip (s : F .f32) (f : Acc F) (c : Dev nD) (t : Fin k0_t3_loop.trips) (u : Unit) :
    iprop(outTo s f c t.val ∗ accPts c Finset.univ f)
      ⊢ WP c (k0_t3_body arg0' harg0' arg1 harg1 arg2 harg2 arg3 harg3 outM houtM accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 s t u)
        (fun _ => iprop(outTo s f c (t.val + 1) ∗ accPts c Finset.univ f)) := by
  have ht : t.val < 16 := lt_of_lt_of_eq t.isLt trips3
  unfold k0_t3_body
  simp only [Prog.lift, Prog.bind_op, Prog.bind_ret, Prog.pure_eq_ret]
  iintro H
  iapply (wp_outCore s f c t.val ht (k0_off44_eq t)) $$ H
  iintro H
  iapply (wp_done (F := F) c _)
  iexact H

end Cert.Ring

end
-- ==== Proof.Entry.lean ====
/-
# `Entry`: from entering the kernel to the first hop started

A device opens its slots, tells both neighbours, waits for both, multiplies, and starts hop 0 of every ring.
-/
module

public import proofs.«01_k».proof.Proof.Rows

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

variable {arg2 : Memref sig .tc .smem S1 .f32} {harg2 : arg2.IsWhole} {arg3 : Memref sig .tc .smem S1 .f32} {harg3 : arg3.IsWhole}
variable {arg4 : Memref sig .tc .vmem S4096x2048 .f32} {harg4 : arg4.IsWhole}

/-- The staged `w`. -/
abbrev wM : Memref sig .tc .vmem S256x2048 .fp8e4m3 := Memref.whole cc0_stg1_0
def wPts (c : Dev nD) : sProp 𝕄 := wM.view.loc (c : Thread nD τ) ↦{fullShare} (w c)

variable {harg0 : (xM).IsWhole} {harg1 : (wM).IsWhole}

/-! ## What a device enters with -/

/-- A ring's share before anything is sent, its slots not yet open. -/
def ring0 (r : Fin 4) (c : Dev nD) : sProp 𝕄 :=
  iprop(sndTok r c 0 ∗ posS r c 0 ∗ posV r c 0 ∗ (readerAt EK (c, r, 0) 0 ∗ readerAt EK (c, r, 1) 0) ∗ crdTok r c 0 ∗ crdPos r c 0)
/-- The two slots of a ring at any contents. -/
def slots2 (r : Fin 4) (c : Dev nD) : sProp 𝕄 := iprop(slotAny (c, r, 0) ∗ slotAny (c, r, 1))
/-- The barrier's share: the own cell's position and credit, and the duties to the two neighbours. -/
def barTok (c : Dev nD) : sProp 𝕄 :=
  iprop(atPos ER (kcell c none) 0 ∅ 0 ∗ dutyTok ER (kcell (shift c 15) none) 0 0 ∗ dutyTok ER (kcell (shift c 1) none) 0 1
    ∗ cred (tallyAt (kcell c none) 0 2))

/-- A device opens the slots of a ring for the first two hops. -/
theorem open_ring (r : Fin 4) (c : Dev nD) :
    iprop(records x w κ κs ∗ ring0 r c ∗ slots2 r c) ⊢ (|={Set.univ}=> (Gh r c 0 0 0 0 0 0 ∗ Rel c r 0) : sProp 𝕄) := by
  have e0 : par 0 = (0 : Fin 2) := rfl
  have e1 : par (0 + 1) = (1 : Fin 2) := rfl
  unfold ring0 slots2 Gh rdr Rel Rl
  rw [e0, e1, show 0 / 2 = 0 from rfl]
  iintro ⟨#HR, ⟨G1, GS, GV, ⟨Hr0, Hr1⟩, G2, G3⟩, Hs0, Hs1⟩
  ihave #Hi0 := (rec_slot x w κ κs (c, r, 0)) $$ HR
  ihave #Hi1 := (rec_slot x w κ κs (c, r, 1)) $$ HR
  ihave #Hc0 := (rec_reached x w κ κs c (rcvK r 0)) $$ HR
  ihave #Hc1 := (rec_reached x w κ κs c (rcvK r 1)) $$ HR
  imod (slot_release EK (Set.mem_univ _) (slotAny_false (c, r, 0)) 0) $$ [Hr0 Hs0] with ⟨Hr0, #Hl0⟩
  · isplitl []; · iexact Hi0
    isplitl [Hr0]; · iexact Hr0
    iexact Hs0
  imod (slot_release EK (Set.mem_univ _) (slotAny_false (c, r, 1)) 0) $$ [Hr1 Hs1] with ⟨Hr1, #Hl1⟩
  · isplitl []; · iexact Hi1
    isplitl [Hr1]; · iexact Hr1
    iexact Hs1
  imodintro
  isplitl
  · isplitl [G1]; · iexact G1
    isplitl [GS]; · iexact GS
    isplitl [GV]; · iexact GV
    isplitl [Hr0 Hr1]
    · isplitl [Hr0 Hr1]
      · isplitl [Hr0]; · iexact Hr0
        iexact Hr1
      isplitl []
      · isplitl []; · iexact Hl0
        iexact Hc0
      isplitl []; · iexact Hl1
      iexact Hc1
    isplitl [G2]; · iexact G2
    iexact G3
  isplitl []
  · isplitl []; · iexact Hl0
    iexact Hc0
  isplitl []; · iexact Hl1
  iexact Hc1

/-- Everything owed on entering: the rings, and a signal to each neighbour. -/
def owed0 (c : Dev nD) : CellTallies nD τ sig ℕ :=
  owed c (fun _ => 0) (fun _ => 0) + tallyAt (kcell (shift c 1) none) 0 1 + tallyAt (kcell (shift c 15) none) 0 1

theorem shift_back : ∀ c : Dev nD, shift (shift c 15) 1 = c := by decide +kernel
theorem shift_fwd : ∀ c : Dev nD, shift (shift c 1) 15 = c := by decide +kernel

section
variable {α : Type} {Q : α → sProp (MT nD τ sig ℕ (Elt F) ℕ UU ℕ)}

/-- A signal to a neighbour's barrier, handing over what its duty says. -/
theorem wp_tell (c c' : Dev nD) (d : ℕ) (hd : d = 0 ∨ d = 1) (O : CellTallies nD τ sig ℕ)
    {dev : ℕ} (hdev : dev = c'.val) {lt : dev < nD} {sm : Sem sig} (hsm : csem none = SemLoc.reg sm)
    {n : ℤ} (hn : n = ((1 : ℕ) : ℤ)) {kk : Prog (TpuEff nD τ sig (Elt F) Λ₀ .tc) α} :
    iprop(records x w κ κs ∗ dutyTok ER (kcell c' none) 0 d ∗ (Rd x w).payload (kcell c' none) 0 d ∗ owesX c (O + tallyAt (kcell c' none) 0 1))
      ⊢ iprop((owesX c O -∗ WP c kk Q) -∗ WP c (.op (.semSignal ((⟨dev, lt⟩ : Dev nD), Proc.tc) sm n) (fun _ => kk)) Q) := by
  subst hn hdev
  unfold owesX
  iintro ⟨#HR, Ht, Hp, %W, HO⟩ Hk
  ihave #Hi := (rec_cell x w κ κs c' none) $$ HR
  ihave #Hre := (rec_reached x w κ κs c' none) $$ HR
  have e : kcell c' none = ((c' : Thread nD τ), SemLoc.reg sm) := congrArg (fun z => ((c' : Thread nD τ), z)) hsm
  have hdu := duties_bar x w c'
  have hm := amount_bar x w c' 0 d
  rw [e] at hdu hm ⊢
  iapply (Rounds.wp_signal 𝒱₀ ER (Rd x w) (c : Thread nD τ) none (dst := (c' : Thread nD τ)) (κ := κ (c', none))
    (r := 0) (d := d) (by rw [hdu]; rcases hd with rfl | rfl <;> decide) hm 0 O rfl) $$ [HO Ht Hp]
  · isplitl []; · iexact Hi
    isplitl [HO]; · iexact HO
    isplitl [Ht]; · iexact Ht
    isplitl [Hp]; · iexact Hp
    iexact Hre
  iintro HO
  iapply Hk
  iexists _; iexact HO

/-- The wait for both neighbours. -/
theorem wp_hear (c : Dev nD) (a b : Fin 4 → ℕ) {sm : Sem sig} (hsm : csem none = SemLoc.reg sm)
    {n : ℤ} (hn : n = ((2 : ℕ) : ℤ)) {kk : Prog (TpuEff nD τ sig (Elt F) Λ₀ .tc) α} :
    iprop(records x w κ κs ∗ atPos ER (kcell c none) 0 ∅ 0 ∗ cred (tallyAt (kcell c none) 0 2) ∗ owesX c (owed c a b))
      ⊢ iprop(((atPos ER (kcell c none) 1 ∅ 0 ∗ (Rel (tgt 0 c) 0 0 ∗ Rel (tgt 1 c) 1 0 ∗ Rel (tgt 2 c) 2 0 ∗ Rel (tgt 3 c) 3 0) ∗ owesX c (owed c a b)) -∗ WP c kk Q)
        -∗ WP c (.op (.semWait sm n) (fun _ => kk)) Q) := by
  subst hn
  unfold owesX
  iintro ⟨#HR, Hat, Hc, %W, HO⟩ Hk
  ihave #Hi := (rec_cell x w κ κs c none) $$ HR
  ihave #Hm := ((rec_lev x w κ κs).trans (mayWait_low c (csem none) 0 (by decide) a b (by rw [lv_bar]))) $$ HR
  have e : kcell c none = ((c : Thread nD τ), SemLoc.reg sm) := congrArg (fun z => ((c : Thread nD τ), z)) hsm
  have hdu := duties_bar x w c
  have hex := expect_bar x w c
  have hp0 := payload_bar x w c 0 0
  have hp1 := payload_bar x w c 0 1
  rw [if_pos rfl] at hp0
  rw [if_neg (by decide)] at hp1
  rw [e] at hdu hex hp0 hp1 ⊢
  rw [hsm]
  iapply (wp_wait_rest_token 𝒱₀ ER (Rd x w) (c : Thread nD τ) none (κ := κ (c, none))
    (wpE_semWait_eq 𝒱₀ (c : Thread nD τ) none Set.univ) (Set.mem_univ _) 0 (R := 0) (m := 0) (T := ∅)
    (by rw [Nat.zero_add, hex])) $$ [Hc HO Hat]
  · isplitl []; · iexact Hi
    isplitl [Hc]; · iexact Hc
    isplitl [HO]; · iexact HO
    isplitl []; · iexact Hm
    iexact Hat
  have hs : (bigSep ({0, 1} : Finset ℕ) fun d => (Rd x w).payload ((c : Thread nD τ), SemLoc.reg sm) 0 d)
      = (iprop((Rel (shift c 1) 0 0 ∗ Rel (shift c 1) 1 0) ∗ Rel (shift c 15) 2 0 ∗ Rel (shift c 15) 3 0) : sProp 𝕄) := by
    rw [bigSep_insert (by decide), bigSep_singleton, hp0, hp1]; rfl
  rw [hdu, Finset.sdiff_empty]
  iintro ⟨HO, Hat, -, Hp⟩
  ihave Hp := (Entails.of_eq hs) $$ Hp
  icases Hp with ⟨⟨#H0, #H1⟩, Hp1⟩
  icases Hp1 with ⟨#H2, #H3⟩
  iapply Hk
  isplitl [Hat]; · iexact Hat
  isplitl []
  · isplitl []; · iexact H0
    isplitl []; · iexact H1
    isplitl []; · iexact H2
    iexact H3
  iexists _; iexact HO

end

/-- The four bands make up the accumulator. -/
theorem acc_bands (c : Dev nD) (f : Acc F) : (accPts c Finset.univ f : sProp 𝕄)
    = iprop(accPts c (colset 0) f ∗ accPts c (colset 1) f ∗ accPts c (colset 2) f ∗ accPts c (colset 3) f) := by
  have hu : (Finset.univ : Finset (accM.view.ty.Idx)) = (Finset.univ : Finset (Fin 4)).biUnion colset := by
    refine (Finset.eq_univ_iff_forall.mpr fun i => ?_).symm
    have : (i 1).val < 2048 := (i 1).isLt
    exact Finset.mem_biUnion.mpr ⟨⟨(i 1).val / 512, by omega⟩, Finset.mem_univ _, Finset.mem_filter.mpr ⟨Finset.mem_univ _, rfl⟩⟩
  unfold accPts
  rw [hu, pointsTo_biUnion _ _ (fun r _ r' _ hne => Finset.disjoint_left.mpr fun i hi hi' =>
    hne (Fin.ext ((Finset.mem_filter.mp hi).2.symm.trans (Finset.mem_filter.mp hi').2)))]
  exact bigSep_univ_eq_bigSepL [(0 : Fin 4), 1, 2, 3] (by decide) (by decide) _

/-- The share of every ring as hop 0 is about to start. -/
def six (c : Dev nD) : sProp 𝕄 := iprop(st6 x w 0 c 0 ∗ st6 x w 1 c 0 ∗ st6 x w 2 c 0 ∗ st6 x w 3 c 0)
/-- What a device enters the kernel's first part with. -/
def entry (c : Dev nD) : sProp 𝕄 :=
  iprop((ring0 0 c ∗ ring0 1 c ∗ ring0 2 c ∗ ring0 3 c) ∗ (slots2 0 c ∗ slots2 1 c ∗ slots2 2 c ∗ slots2 3 c) ∗ barTok c)

theorem mk_st6 (r : Fin 4) (c : Dev nD) :
    iprop(Gh r c 0 0 0 0 0 0 ∗ Rel (tgt r c) r 0 ∗ accPts c (colset r) (gemm x w c)) ⊢ (st6 x w r c 0 : sProp 𝕄) := by
  unfold st6
  iintro ⟨H, #Hl, Ha⟩
  isplitl [H]; · iexact H
  isplitl []; · iexact Hl
  isplitl [Ha]; · iexact Ha
  unfold Rel
  icases Hl with ⟨Hl, -⟩
  iexact Hl

/-- Part 8: the handshake and the products. -/
theorem wp_part8 (c : Dev nD) {Q : _ → sProp (MT nD τ sig ℕ (Elt F) ℕ UU ℕ)} :
    iprop(records x w κ κs ∗ entry c ∗ (∃ f, accPts c Finset.univ f) ∗ xPts x c ∗ wPts w c ∗ owesX c (owed0 c))
      ⊢ iprop(((six x w c ∗ atPos ER (kcell c none) 1 ∅ 0 ∗ xPts x c ∗ wPts w c ∗ owesX c (owed c (fun _ => 0) (fun _ => 0)))
          -∗ ∀ v2 v5 v7, Q ⟨c, v2, v5, v7⟩)
        -∗ WP c (k0_part8 xM harg0 wM harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16) Q) := by
  rw [k0_part8_eq_skeleton]
  unfold k0_part8_skel
  simp only [semSignalWord, semWaitWord, Prog.lift, Prog.bind_op, Prog.bind_ret, Prog.pure_eq_ret, wp_deviceId]
  unfold entry barTok
  iintro ⟨#HR, ⟨⟨R0, R1, R2, R3⟩, ⟨S0, S1, S2, S3⟩, Hat, Hl, Hr, Hc⟩, ⟨%f, Ha⟩, Hx, Hw, HO⟩ Hk
  imod (open_ring x w κ κs 0 c) $$ [R0 S0] with ⟨G0, #L0⟩
  · isplitl []; · iexact HR
    isplitl [R0]; · iexact R0
    iexact S0
  imod (open_ring x w κ κs 1 c) $$ [R1 S1] with ⟨G1, #L1⟩
  · isplitl []; · iexact HR
    isplitl [R1]; · iexact R1
    iexact S1
  imod (open_ring x w κ κs 2 c) $$ [R2 S2] with ⟨G2, #L2⟩
  · isplitl []; · iexact HR
    isplitl [R2]; · iexact R2
    iexact S2
  imod (open_ring x w κ κs 3 c) $$ [R3 S3] with ⟨G3, #L3⟩
  · isplitl []; · iexact HR
    isplitl [R3]; · iexact R3
    iexact S3
  unfold owed0
  have hl := payload_bar x w (shift c 15) 0 0
  have hr := payload_bar x w (shift c 1) 0 1
  rw [if_pos rfl, shift_back] at hl
  rw [if_neg (by decide), shift_fwd] at hr
  iapply (wp_tell x w κ κs c (shift c 15) 0 (Or.inl rfl) _ (dev1_left c) bar_sem rfl) $$ [Hl HO]
  · isplitl []; · iexact HR
    isplitl [Hl]; · iexact Hl
    isplitl []
    · iapply (Entails.of_eq hl.symm)
      isplitl []; · iexact L0
      iexact L1
    iexact HO
  iintro HO
  iapply (wp_tell x w κ κs c (shift c 1) 1 (Or.inr rfl) _ (dev2_right c) bar_sem rfl) $$ [Hr HO]
  · isplitl []; · iexact HR
    isplitl [Hr]; · iexact Hr
    isplitl []
    · iapply (Entails.of_eq hr.symm)
      isplitl []; · iexact L2
      iexact L3
    iexact HO
  iintro HO
  iapply (wp_hear x w κ κs c _ _ bar_sem rfl) $$ [Hat Hc HO]
  · isplitl []; · iexact HR
    isplitl [Hat]; · iexact Hat
    isplitl [Hc]; · iexact Hc
    iexact HO
  iintro ⟨Hat, ⟨#T0, #T1, #T2, #T3⟩, HO⟩
  unfold wPts
  iapply (wp_load 𝒱₀ (c : Thread nD τ) none Set.univ (m := wM) (S := Finset.univ) (f := w c) (Finset.subset_univ _)) $$ Hw
  iintro Hw
  rw [show (wM.view.readAt (Elt F) (Rect.unit (s := S256x2048) ![0, 0] S256x2048.size inb_S256x2048_S256x2048_0_0).toLoadRect (w c)) = w c
    from Memref.readAt_unit_zero (Elt F) cc0_stg1_0 (by decide) _ (w c)]
  iapply (Scf.wp_for_bind frame (wpE (defs₀ (F := F)) 𝒱₀ (c : Thread nD τ) none) Set.univ _ _ _ k0_t1_ok ⟨⟩ _
    (fun k _ => iprop(gemmTo x w c k ∗ xPts x c)) (fun k u => wp_gemmTrip x w c k u)) $$ [Ha Hx]
  · isplitl [Ha]
    · unfold gemmTo
      iexists f
      isplitl []
      · ipureintro; intro i hi; exact absurd hi (Nat.not_lt_zero _)
      iexact Ha
    iexact Hx
  iintro %u ⟨Ha, Hx⟩
  unfold gemmTo
  icases Ha with ⟨%g, %hg, Ha⟩
  have hgg : g = gemm x w c := funext fun i => hg i (by
    have : (i 0).val < 4096 := (i 0).isLt
    have h16 : Scf.trips _ _ _ = 16 := trips1
    rw [h16]; omega)
  rw [hgg]
  ihave Ha := (Entails.of_eq (acc_bands c (gemm x w c))) $$ Ha
  icases Ha with ⟨A0, A1, A2, A3⟩
  ihave Hk := Hk $$ [G0 G1 G2 G3 A0 A1 A2 A3 Hat Hx Hw HO]
  · isplitl [G0 G1 G2 G3 A0 A1 A2 A3]
    · unfold six
      isplitl [G0 A0]
      · iapply (mk_st6 x w 0 c)
        isplitl [G0]; · iexact G0
        isplitl []; · iexact T0
        iexact A0
      isplitl [G1 A1]
      · iapply (mk_st6 x w 1 c)
        isplitl [G1]; · iexact G1
        isplitl []; · iexact T1
        iexact A1
      isplitl [G2 A2]
      · iapply (mk_st6 x w 2 c)
        isplitl [G2]; · iexact G2
        isplitl []; · iexact T2
        iexact A2
      iapply (mk_st6 x w 3 c)
      isplitl [G3]; · iexact G3
      isplitl []; · iexact T3
      iexact A3
    isplitl [Hat]; · iexact Hat
    isplitl [Hx]; · iexact Hx
    isplitl [Hw]; · iexact Hw
    iexact HO
  iapply (wp_done (F := F) c _)
  iapply Hk

end Cert.Ring

end
-- ==== Proof.Tail.lean ====
/-
# `Tail`: the first hop's starts, the loop of the hops, and the last hop

Hop 0 is started for every ring, the trips of the loop take the rings to hop 29, and the last hop is finished.
-/
module

public import proofs.«01_k».proof.Proof.Entry

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

variable {arg0 : Memref sig .tc .vmem S4096x256 .fp8e4m3} {harg0 : arg0.IsWhole} {arg1 : Memref sig .tc .vmem S256x2048 .fp8e4m3} {harg1 : arg1.IsWhole}
variable {arg2 : Memref sig .tc .smem S1 .f32} {harg2 : arg2.IsWhole} {arg3 : Memref sig .tc .smem S1 .f32} {harg3 : arg3.IsWhole}
variable {arg4 : Memref sig .tc .vmem S4096x2048 .f32} {harg4 : arg4.IsWhole}

/-- The rings of which hop 0 is started, when the first `k` are. -/
def firstA (k : ℕ) : Fin 4 → ℕ := fun r => if r.val < k then 1 else 0
theorem firstA_next (r : Fin 4) (k : ℕ) (hk : r.val = k) : Function.update (firstA k) r (0 + 1) = firstA (k + 1) := by
  subst hk; funext r'
  by_cases h : r' = r
  · subst h; simp [firstA]
  · have h' : r'.val ≠ r.val := fun hh => h (Fin.ext hh)
    rw [Function.update_of_ne h]; unfold firstA; congr 1; exact propext (by omega)
theorem firstA_self (r : Fin 4) (k : ℕ) (hk : r.val = k) : firstA k r = 0 := by unfold firstA; rw [if_neg (by omega)]
theorem firstA_zero : firstA 0 = fun _ => 0 := by funext r; simp [firstA]
theorem firstA_end : firstA 4 = hopA 0 0 := by funext r; have := r.isLt; simp [firstA, hopA]
theorem hopB_zero : hopB 0 0 = fun _ => 0 := by funext r; simp [hopB]
theorem slot_zero : (![0, 0, 0] : Fin 3 → ℕ) = slotOff (par 0).val := rfl

/-- Every ring has started all its hops, and given all its credits, when the last trip is done. -/
theorem hopA_last : ∀ r, 29 + 1 ≤ hopA 29 0 r := hopA_le 29 0
theorem hopB_last : ∀ r, min 29 28 ≤ hopB 29 0 r := hopB_le 29 0

/-- What is owed when the last trip is done: nothing. -/
theorem owed_last (c : Dev nD) : owed c (hopA 29 0) (hopB 29 0) = 0 := owed_end c _ _ hopA_last hopB_last

/-- Part 9: hop 0 of rings 0 and 1. -/
theorem wp_part9 (c : Dev nD) (v2 v5 v7 : BitVec 32) {Q : _ → sProp (MT nD τ sig ℕ (Elt F) ℕ UU ℕ)} :
    iprop(records x w κ κs ∗ st6 x w 0 c 0 ∗ st6 x w 1 c 0 ∗ owesX c (owed c (firstA 0) (hopB 0 0)))
      ⊢ iprop(((st0 x w 0 c 0 ∗ st0 x w 1 c 0 ∗ owesX c (owed c (firstA 2) (hopB 0 0))) -∗ Q ⟨⟩)
        -∗ WP c (k0_part9 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7) Q) := by
  rw [k0_part9_eq_skeleton]
  unfold k0_part9_skel
  simp only [Prog.lift, Prog.bind_op, Prog.bind_ret, Prog.pure_eq_ret]
  iintro ⟨#HR, H0, H1, HO⟩ Hk
  iapply (to_st0 x w κ κs 0 c 0 (by decide) (firstA 0) (hopB 0 0) (firstA_self _ _ rfl) (off3_blk c) slot_zero (dev3_tgt c) (snd0_fix 0 _) (rcv0_fix 0 _)) $$ [H0 HO]
  · isplitl []; · iexact HR
    isplitl [H0]; · iexact H0
    iexact HO
  iintro ⟨H0, HO⟩
  rw [firstA_next 0 0 rfl]
  iapply (to_st0 x w κ κs 1 c 0 (by decide) (firstA 1) (hopB 0 0) (firstA_self _ _ rfl) (off4_blk c) slot_zero (dev4_tgt c) (snd1_fix 0 _) (rcv1_fix 0 _)) $$ [H1 HO]
  · isplitl []; · iexact HR
    isplitl [H1]; · iexact H1
    iexact HO
  iintro ⟨H1, HO⟩
  rw [firstA_next 1 1 rfl]
  iapply (wp_done (F := F) c _)
  iapply Hk
  isplitl [H0]; · iexact H0
  isplitl [H1]; · iexact H1
  iexact HO

/-- A trip, as the loop's invariant is carried. -/
theorem wp_tripI (c : Dev nD) (t : Fin k0_t2_loop.trips) (v2 v5 v7 : BitVec 32) (u : Unit) :
    iprop(records x w κ κs ∗ hops x w c t.val)
      ⊢ WP c (k0_t2_body arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7 t u) (fun _ => iprop(records x w κ κs ∗ hops x w c (t.val + 1))) := by
  iintro ⟨#HR, H⟩
  iapply (wp_trip x w κ κs c t v2 v5 v7 u) $$ [H]
  · isplitl []; · iexact HR
    iexact H
  iintro H
  isplitl []; · iexact HR
  iexact H

/-- Part 10: hop 0 of rings 2 and 3, the trips, and the wait for ring 0's last block to be sent. -/
theorem wp_part10 (c : Dev nD) (v2 v5 v7 : BitVec 32) {Q : _ → sProp (MT nD τ sig ℕ (Elt F) ℕ UU ℕ)} :
    iprop(records x w κ κs ∗ st0 x w 0 c 0 ∗ st0 x w 1 c 0 ∗ st6 x w 2 c 0 ∗ st6 x w 3 c 0 ∗ owesX c (owed c (firstA 2) (hopB 0 0)))
      ⊢ iprop(((st1 x w 0 c 29 ∗ st0 x w 1 c 29 ∗ st0 x w 2 c 29 ∗ st0 x w 3 c 29 ∗ owesX c (owed c (hopA 29 0) (hopB 29 0))) -∗ Q ⟨⟩)
        -∗ WP c (k0_part10 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5 v7) Q) := by
  rw [k0_part10_eq_skeleton]
  unfold k0_part10_skel
  simp only [Prog.lift, Prog.bind_op, Prog.bind_ret, Prog.pure_eq_ret]
  iintro ⟨#HR, H0, H1, H2, H3, HO⟩ Hk
  iapply (to_st0 x w κ κs 2 c 0 (by decide) (firstA 2) (hopB 0 0) (firstA_self _ _ rfl) (off5_blk c) slot_zero (dev5_tgt c) (snd2_fix 0 _) (rcv2_fix 0 _)) $$ [H2 HO]
  · isplitl []; · iexact HR
    isplitl [H2]; · iexact H2
    iexact HO
  iintro ⟨H2, HO⟩
  rw [firstA_next 2 2 rfl]
  iapply (to_st0 x w κ κs 3 c 0 (by decide) (firstA 3) (hopB 0 0) (firstA_self _ _ rfl) (off6_blk c) slot_zero (dev6_tgt c) (snd3_fix 0 _) (rcv3_fix 0 _)) $$ [H3 HO]
  · isplitl []; · iexact HR
    isplitl [H3]; · iexact H3
    iexact HO
  iintro ⟨H3, HO⟩
  rw [firstA_next 3 3 rfl]
  rw [firstA_end]
  iapply (Scf.wp_for_bind frame (wpE (defs₀ (F := F)) 𝒱₀ (c : Thread nD τ) none) Set.univ _ _ _ k0_t2_ok ⟨⟩ _
    (fun k _ => iprop(records x w κ κs ∗ hops x w c k)) (fun k u => wp_tripI x w κ κs c k v2 v5 v7 u)) $$ [H0 H1 H2 H3 HO]
  · isplitl []; · iexact HR
    unfold hops
    isplitr [HO]
    · isplitl [H0]; · iexact H0
      isplitl [H1]; · iexact H1
      isplitl [H2]; · iexact H2
      iexact H3
    iexact HO
  iintro %u ⟨-, H⟩
  rw [show Scf.trips _ _ _ = 29 from trips2]
  unfold hops
  icases H with ⟨⟨H0, H1, H2, H3⟩, HO⟩
  iapply (to_st1 x w κ κs 0 c 29 (by decide) _ _ (snd0_fix 1 _) (acc_credit _ _ _)) $$ [H0 HO]
  · isplitl []; · iexact HR
    isplitl [H0]; · iexact H0
    iexact HO
  iintro ⟨H0, HO⟩
  iapply (wp_done (F := F) c _)
  iapply Hk
  isplitl [H0]; · iexact H0
  isplitl [H1]; · iexact H1
  isplitl [H2]; · iexact H2
  isplitl [H3]; · iexact H3
  iexact HO

/-- Part 11: ring 0's last hop. -/
theorem wp_part11 (c : Dev nD) (v2 v7 : BitVec 32) {Q : _ → sProp (MT nD τ sig ℕ (Elt F) ℕ UU ℕ)} :
    iprop(records x w κ κs ∗ st1 x w 0 c 29 ∗ owesX c (owed c (hopA 29 0) (hopB 29 0)))
      ⊢ iprop(((st4 x w 0 c 29 ∗ owesX c (owed c (hopA 29 0) (hopB 29 0))) -∗ Q ⟨⟩)
        -∗ WP c (k0_part11 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v7) Q) := by
  rw [k0_part11_eq_skeleton]
  unfold k0_part11_skel
  simp only [Prog.lift, Prog.bind_op, Prog.bind_ret, Prog.pure_eq_ret]
  iintro ⟨#HR, H, HO⟩ Hk
  iapply (to_st2 x w κ κs 0 c 29 (by decide) _ _ hopA_last hopB_last (rcv0_fix 1 _) (slot_credit 0 _ _ _)) $$ [H HO]
  · isplitl []; · iexact HR
    isplitl [H]; · iexact H
    iexact HO
  iintro ⟨H, HO⟩
  iapply (to_st4_last x w 0 c (off37_blk c) off36_slot rfl) $$ H
  iintro H
  iapply (wp_done (F := F) c _)
  iapply Hk
  isplitl [H]; · iexact H
  iexact HO

/-- Part 12: ring 1's last hop. -/
theorem wp_part12 (c : Dev nD) (v2 v7 : BitVec 32) {Q : _ → sProp (MT nD τ sig ℕ (Elt F) ℕ UU ℕ)} :
    iprop(records x w κ κs ∗ st0 x w 1 c 29 ∗ owesX c (owed c (hopA 29 0) (hopB 29 0)))
      ⊢ iprop(((st4 x w 1 c 29 ∗ owesX c (owed c (hopA 29 0) (hopB 29 0))) -∗ Q ⟨⟩)
        -∗ WP c (k0_part12 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v7) Q) := by
  rw [k0_part12_eq_skeleton]
  unfold k0_part12_skel
  simp only [Prog.lift, Prog.bind_op, Prog.bind_ret, Prog.pure_eq_ret]
  iintro ⟨#HR, H, HO⟩ Hk
  iapply (to_st1 x w κ κs 1 c 29 (by decide) _ _ (snd1_fix 1 _) (acc_credit _ _ _)) $$ [H HO]
  · isplitl []; · iexact HR
    isplitl [H]; · iexact H
    iexact HO
  iintro ⟨H, HO⟩
  iapply (to_st2 x w κ κs 1 c 29 (by decide) _ _ hopA_last hopB_last (rcv1_fix 1 _) (slot_credit 1 _ _ _)) $$ [H HO]
  · isplitl []; · iexact HR
    isplitl [H]; · iexact H
    iexact HO
  iintro ⟨H, HO⟩
  iapply (to_st4_last x w 1 c (off39_blk c) off36_slot rfl) $$ H
  iintro H
  iapply (wp_done (F := F) c _)
  iapply Hk
  isplitl [H]; · iexact H
  iexact HO

/-- Part 13: ring 2's last hop. -/
theorem wp_part13 (c : Dev nD) (v2 v5 : BitVec 32) {Q : _ → sProp (MT nD τ sig ℕ (Elt F) ℕ UU ℕ)} :
    iprop(records x w κ κs ∗ st0 x w 2 c 29 ∗ owesX c (owed c (hopA 29 0) (hopB 29 0)))
      ⊢ iprop(((st4 x w 2 c 29 ∗ owesX c (owed c (hopA 29 0) (hopB 29 0))) -∗ Q ⟨⟩)
        -∗ WP c (k0_part13 arg0 harg0 arg1 harg1 arg2 harg2 arg3 harg3 arg4 harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16 c v2 v5) Q) := by
  rw [k0_part13_eq_skeleton]
  unfold k0_part13_skel
  simp only [Prog.lift, Prog.bind_op, Prog.bind_ret, Prog.pure_eq_ret]
  iintro ⟨#HR, H, HO⟩ Hk
  iapply (to_st1 x w κ κs 2 c 29 (by decide) _ _ (snd2_fix 1 _) (acc_credit _ _ _)) $$ [H HO]
  · isplitl []; · iexact HR
    isplitl [H]; · iexact H
    iexact HO
  iintro ⟨H, HO⟩
  iapply (to_st2 x w κ κs 2 c 29 (by decide) _ _ hopA_last hopB_last (rcv2_fix 1 _) (slot_credit 2 _ _ _)) $$ [H HO]
  · isplitl []; · iexact HR
    isplitl [H]; · iexact H
    iexact HO
  iintro ⟨H, HO⟩
  iapply (to_st4_last x w 2 c (off41_blk c) off36_slot rfl) $$ H
  iintro H
  iapply (wp_done (F := F) c _)
  iapply Hk
  isplitl [H]; · iexact H
  iexact HO

end Cert.Ring

end
-- ==== Proof.Body.lean ====
/-
# `Body`: one device's run of the kernel

The parts in order, then what a ring leaves behind: its semaphores at zero, its slots, and its band of the accumulator.
-/
module

public import proofs.«01_k».proof.Proof.Tail

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

variable (sx sw : Dev nD → Vec F S1 .f32)

/-- The staged scales. -/
abbrev sxM : Memref sig .tc .smem S1 .f32 := Memref.whole cc0_stg2_0
abbrev swM : Memref sig .tc .smem S1 .f32 := Memref.whole cc0_stg3_0
def sxPts (c : Dev nD) : sProp 𝕄 := sxM.view.loc (c : Thread nD τ) ↦{fullShare} (sx c)
def swPts (c : Dev nD) : sProp 𝕄 := swM.view.loc (c : Thread nD τ) ↦{fullShare} (sw c)

/-- The element of a one-element vector. -/
def elt1 (f : Vec F S1 .f32) : F .f32 := f (fun a => ⟨0, by fin_cases a; decide⟩)
/-- The product of a device's scales. -/
def scale (c : Dev nD) : F .f32 := k0_pay15 (elt1 (sx c)) (elt1 (sw c))

instance S1_sub : Subsingleton (S1.Idx) := ⟨fun i j => by
  funext a
  apply Fin.ext
  have h : S1.size a = 1 := by fin_cases a; rfl
  have hi := (i a).isLt; have hj := (j a).isLt
  omega⟩
theorem elt1_eq (f : Vec F S1 .f32) (i : S1.Idx) : f i = elt1 f := congrArg f (Subsingleton.elim _ _)

variable {harg0 : (xM).IsWhole} {harg1 : (wM).IsWhole} {harg2 : (sxM).IsWhole} {harg3 : (swM).IsWhole} {harg4 : (outM).IsWhole}
variable {arg4 : Memref sig .tc .vmem S4096x2048 .f32} {harg4' : arg4.IsWhole}

/-- Part 14: everything up to the end of the last hop, and the scales. -/
theorem wp_part14 (c : Dev nD) {Q : _ → sProp (MT nD τ sig ℕ (Elt F) ℕ UU ℕ)} :
    iprop(records x w κ κs ∗ entry c ∗ (∃ f, accPts c Finset.univ f) ∗ xPts x c ∗ wPts w c ∗ sxPts sx c ∗ swPts sw c ∗ owesX c (owed0 c))
      ⊢ iprop((((st4 x w 0 c 29 ∗ st4 x w 1 c 29 ∗ st4 x w 2 c 29 ∗ st4 x w 3 c 29) ∗ atPos ER (kcell c none) 1 ∅ 0
            ∗ xPts x c ∗ wPts w c ∗ sxPts sx c ∗ swPts sw c ∗ owesX c 0) -∗ ∀ a b, Q ⟨scale sx sw c, a, b⟩)
        -∗ WP c (k0_part14 xM harg0 wM harg1 sxM harg2 swM harg3 arg4 harg4' accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16) Q) := by
  rw [k0_part14_eq_skeleton]
  unfold k0_part14_skel
  simp only [Prog.lift, Prog.bind_op, Prog.bind_ret, Prog.pure_eq_ret]
  simp only [wp_bind]
  iintro ⟨#HR, He, Ha, Hx, Hw, Hsx, Hsw, HO⟩ Hk
  iapply (wp_part8 x w κ κs c) $$ [He Ha Hx Hw HO]
  · isplitl []; · iexact HR
    isplitl [He]; · iexact He
    isplitl [Ha]; · iexact Ha
    isplitl [Hx]; · iexact Hx
    isplitl [Hw]; · iexact Hw
    iexact HO
  unfold six
  iintro ⟨⟨H0, H1, H2, H3⟩, Hat, Hx, Hw, HO⟩ %v2 %v5 %v7
  rw [show owed c (fun _ => 0) (fun _ => 0) = owed c (firstA 0) (hopB 0 0) by rw [firstA_zero, hopB_zero]]
  iapply (wp_part9 x w κ κs c v2 v5 v7) $$ [H0 H1 HO]
  · isplitl []; · iexact HR
    isplitl [H0]; · iexact H0
    isplitl [H1]; · iexact H1
    iexact HO
  iintro ⟨H0, H1, HO⟩
  iapply (wp_part10 x w κ κs c v2 v5 v7) $$ [H0 H1 H2 H3 HO]
  · isplitl []; · iexact HR
    isplitl [H0]; · iexact H0
    isplitl [H1]; · iexact H1
    isplitl [H2]; · iexact H2
    isplitl [H3]; · iexact H3
    iexact HO
  iintro ⟨H0, H1, H2, H, HO⟩
  iapply (wp_part11 x w κ κs c v2 v7) $$ [H0 HO]
  · isplitl []; · iexact HR
    isplitl [H0]; · iexact H0
    iexact HO
  iintro ⟨H0, HO⟩
  iapply (wp_part12 x w κ κs c v2 v7) $$ [H1 HO]
  · isplitl []; · iexact HR
    isplitl [H1]; · iexact H1
    iexact HO
  iintro ⟨H1, HO⟩
  iapply (wp_part13 x w κ κs c v2 v5) $$ [H2 HO]
  · isplitl []; · iexact HR
    isplitl [H2]; · iexact H2
    iexact HO
  iintro ⟨H2, HO⟩
  iapply (to_st1 x w κ κs 3 c 29 (by decide) _ _ (snd3_fix 1 _) (acc_credit _ _ _)) $$ [H HO]
  · isplitl []; · iexact HR
    isplitl [H]; · iexact H
    iexact HO
  iintro ⟨H, HO⟩
  iapply (to_st2 x w κ κs 3 c 29 (by decide) _ _ hopA_last hopB_last (rcv3_fix 1 _) (slot_credit 3 _ _ _)) $$ [H HO]
  · isplitl []; · iexact HR
    isplitl [H]; · iexact H
    iexact HO
  iintro ⟨H, HO⟩
  iapply (to_st4_last x w 3 c (off43_blk c) off36_slot rfl) $$ H
  iintro H
  rw [owed_last]
  simp only [wp_bind]
  unfold smemLoad sxPts swPts
  iapply (wp_smemLoadElt 𝒱₀ (c : Thread nD τ) none Set.univ (m := sxM) (r := Rect.unit (s := S1) ![0] S1.size inb_S1_S1_0) (S := Finset.univ) (f := sx c) (Finset.subset_univ _)) $$ Hsx
  iintro Hsx
  iapply (wp_done (F := F) c _)
  iapply (wp_smemLoadElt 𝒱₀ (c : Thread nD τ) none Set.univ (m := swM) (r := Rect.unit (s := S1) ![0] S1.size inb_S1_S1_0) (S := Finset.univ) (f := sw c) (Finset.subset_univ _)) $$ Hsw
  iintro Hsw
  iapply (wp_done (F := F) c _)
  iapply (wp_done (F := F) c _)
  rw [View.read_apply, View.read_apply]
  rw [show (_root_.cast _ (sx c _) : F .f32) = elt1 (sx c) from elt1_eq _ _, show (_root_.cast _ (sw c _) : F .f32) = elt1 (sw c) from elt1_eq _ _]
  ihave Hk := Hk $$ [H0 H1 H2 H Hat Hx Hw Hsx Hsw HO]
  · isplitl [H0 H1 H2 H]
    · isplitl [H0]; · iexact H0
      isplitl [H1]; · iexact H1
      isplitl [H2]; · iexact H2
      iexact H
    isplitl [Hat]; · iexact Hat
    isplitl [Hx]; · iexact Hx
    isplitl [Hw]; · iexact Hw
    isplitl [Hsx]; · iexact Hsx
    isplitl [Hsw]; · iexact Hsw
    iexact HO
  rw [show k0_pay15 (elt1 (sx c)) (elt1 (sw c)) = scale sx sw c from rfl]
  iapply Hk

/-! ## What a ring leaves -/

/-- The last write tokens of the own slots. -/
def lastTok (r : Fin 4) (c : Dev nD) : sProp 𝕄 := iprop(writeTok EK (c, r, 0) 16 ∗ writeTok EK (c, r, 1) 16)
/-- A ring's semaphores at zero. -/
def semsOff (r : Fin 4) (c : Dev nD) : sProp 𝕄 :=
  iprop(semVal (kcell c (sndK r 0)) 0 ∗ semVal (kcell c (sndK r 1)) 0 ∗ semVal (kcell c (rcvK r 0)) 0 ∗ semVal (kcell c (rcvK r 1)) 0
    ∗ semVal (kcell c (crdK r)) 0)

/-- A cell no duty of which is left is closed at zero. -/
theorem close_cell (c : Dev nD) (k : CK) (R : ℕ) (hR : ∀ rd, R ≤ rd → (Rd x w).duties (kcell c k) rd = ∅) :
    iprop(records x w κ κs ∗ atPos ER (kcell c k) R ∅ 0) ⊢ (|={Set.univ}=> semVal (kcell c k) 0 : sProp 𝕄) := by
  iintro ⟨#HR, Hat⟩
  ihave #Hi := (rec_cell x w κ κs c k) $$ HR
  iapply (cell_close ER (Rd x w) (Set.mem_univ (κ (c, k))) (fun h => h) (R := R) hR)
  isplitl []; · iexact Hi
  iexact Hat

/-- After its last hop a ring gives back its slots, its semaphores at zero, and its band. -/
theorem close_ring (r : Fin 4) (c : Dev nD) :
    iprop(records x w κ κs ∗ st4 x w r c 29 ∗ lastTok r c)
      ⊢ (|={Set.univ}=> (accPts c (colset r) (acc x w r 30 c) ∗ slots2 r c ∗ semsOff r c) : sProp 𝕄) := by
  unfold st4 Gh lastTok
  iintro ⟨#HR, ⟨⟨-, GS, GV, Gr, -, G3⟩, -, Ha, Hp⟩, Hw0, Hw1⟩
  imod (release_slot x w κ κs r c 29) $$ [GV Gr Hp] with ⟨GV, Gr⟩
  · isplitl []; · iexact HR
    isplitl [GV]; · iexact GV
    isplitl [Gr]; · iexact Gr
    iexact Hp
  have e0 : par (29 + 1) = (0 : Fin 2) := rfl
  have e1 : par (29 + 1 + 1) = (1 : Fin 2) := rfl
  unfold posS posV posC rdr Rel Rl
  rw [e0, e1]
  icases GS with ⟨⟨S0, -⟩, ⟨S1, -⟩⟩
  icases GV with ⟨⟨⟨V0, -⟩, ⟨V1, -⟩⟩, -⟩
  icases Gr with ⟨-, ⟨L0, -⟩, ⟨L1, -⟩⟩
  ihave #Hi0 := (rec_slot x w κ κs (c, r, 0)) $$ HR
  ihave #Hi1 := (rec_slot x w κ κs (c, r, 1)) $$ HR
  imod (slot_take EK (Set.mem_univ _) 16) $$ [L0 Hw0] with B0
  · isplitl []; · iexact Hi0
    isplitl [L0]; · iexact L0
    iexact Hw0
  imod (slot_take EK (Set.mem_univ _) 16) $$ [L1 Hw1] with B1
  · isplitl []; · iexact Hi1
    isplitl [L1]; · iexact L1
    iexact Hw1
  imod (close_cell x w κ κs c (sndK r 0) 15 (duties_snd_later x w c r 0)) $$ [S0] with S0
  · isplitl []; · iexact HR
    iexact S0
  imod (close_cell x w κ κs c (sndK r 1) 15 (duties_snd_later x w c r 1)) $$ [S1] with S1
  · isplitl []; · iexact HR
    iexact S1
  imod (close_cell x w κ κs c (rcvK r 0) 15 (duties_rcv_later x w c r 0)) $$ [V0] with V0
  · isplitl []; · iexact HR
    iexact V0
  imod (close_cell x w κ κs c (rcvK r 1) 15 (duties_rcv_later x w c r 1)) $$ [V1] with V1
  · isplitl []; · iexact HR
    iexact V1
  unfold crdPos
  icases G3 with ⟨%T, %hT, Hat, -, -⟩
  ihave #Hik := (rec_cell x w κ κs c (crdK r)) $$ HR
  have hsub : (Rd x w).duties (kcell c (crdK r)) 0 ⊆ T := by
    rw [duties_crd]
    have h0 : (Finset.range 28 \ T).card = 0 := by have := hT.2; omega
    exact Finset.sdiff_eq_empty_iff_subset.mp (Finset.card_eq_zero.mp h0)
  imod (fupd_skip ER (Rd x w) hsub (expect_crd x w c r).symm (Set.mem_univ (κ (c, crdK r)))) $$ [Hat] with ⟨Hat, -⟩
  · isplitl []; · iexact Hik
    iexact Hat
  imod (close_cell x w κ κs c (crdK r) 1 (duties_crd_later x w c r)) $$ [Hat] with K0
  · isplitl []; · iexact HR
    iexact Hat
  imodintro
  isplitl [Ha]; · iexact Ha
  isplitl [B0 B1]
  · unfold slots2
    isplitl [B0]; · iexact B0
    iexact B1
  unfold semsOff
  isplitl [S0]; · iexact S0
  isplitl [S1]; · iexact S1
  isplitl [V0]; · iexact V0
  isplitl [V1]; · iexact V1
  iexact K0

/-- A band at the end is that band of the whole result. -/
theorem band_end (r : Fin 4) (c : Dev nD) : (accPts c (colset r) (acc x w r 30 c) : sProp 𝕄) = accPts c (colset r) (accEnd x w c) := by
  unfold accPts
  refine pointsTo_congr fun i hi => ?_
  have h : (⟨(i 1).val / 512, by have : (i 1).val < 2048 := (i 1).isLt; omega⟩ : Fin 4) = r := Fin.ext (Finset.mem_filter.mp hi).2
  unfold accEnd
  rw [h]

/-- What a device writes to its output. -/
def outAt (c : Dev nD) : Vec F S4096x2048 .f32 := outOf (scale sx sw c) (accEnd x w c)

/-- What a device leaves the kernel with. -/
def leave (c : Dev nD) : sProp 𝕄 :=
  iprop((xPts x c ∗ wPts w c ∗ sxPts sx c ∗ swPts sw c ∗ (outM.view.loc (c : Thread nD τ) ↦{fullShare} (outAt x w sx sw c)))
    ∗ (∃ f, accPts c Finset.univ f) ∗ (slots2 0 c ∗ slots2 1 c ∗ slots2 2 c ∗ slots2 3 c)
    ∗ (semsOff 0 c ∗ semsOff 1 c ∗ semsOff 2 c ∗ semsOff 3 c) ∗ semVal (kcell c none) 0 ∗ owesX c 0)

/-- A device's whole run. -/
theorem wp_body (c : Dev nD) :
    iprop(records x w κ κs ∗ entry c ∗ (lastTok 0 c ∗ lastTok 1 c ∗ lastTok 2 c ∗ lastTok 3 c) ∗ (∃ f, accPts c Finset.univ f)
        ∗ xPts x c ∗ wPts w c ∗ sxPts sx c ∗ swPts sw c ∗ (∃ g : Vec F S4096x2048 .f32, outM.view.loc (c : Thread nD τ) ↦{fullShare} g) ∗ owesX c (owed0 c))
      ⊢ WP c (cc0_body xM harg0 wM harg1 sxM harg2 swM harg3 outM harg4 accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16) (fun _ => leave x w sx sw c) := by
  rw [cc0_body_eq_skeleton]
  unfold cc0_body_skel
  simp only [Prog.pure_eq_ret]
  unfold WP
  rw [wp_bind]
  iintro ⟨#HR, He, ⟨W0, W1, W2, W3⟩, Ha, Hx, Hw, Hsx, Hsw, ⟨%g, Ho⟩, HO⟩
  iapply (wp_part14 x w κ κs sx sw c) $$ [He Ha Hx Hw Hsx Hsw HO]
  · isplitl []; · iexact HR
    isplitl [He]; · iexact He
    isplitl [Ha]; · iexact Ha
    isplitl [Hx]; · iexact Hx
    isplitl [Hw]; · iexact Hw
    isplitl [Hsx]; · iexact Hsx
    isplitl [Hsw]; · iexact Hsw
    iexact HO
  iintro ⟨⟨H0, H1, H2, H3⟩, Hat, Hx, Hw, Hsx, Hsw, HO⟩ %a %b
  imod (close_ring x w κ κs 0 c) $$ [H0 W0] with ⟨A0, B0, S0⟩
  · isplitl []; · iexact HR
    isplitl [H0]; · iexact H0
    iexact W0
  ihave A0 := (Entails.of_eq (band_end x w 0 c)) $$ A0
  imod (close_ring x w κ κs 1 c) $$ [H1 W1] with ⟨A1, B1, S1⟩
  · isplitl []; · iexact HR
    isplitl [H1]; · iexact H1
    iexact W1
  ihave A1 := (Entails.of_eq (band_end x w 1 c)) $$ A1
  imod (close_ring x w κ κs 2 c) $$ [H2 W2] with ⟨A2, B2, S2⟩
  · isplitl []; · iexact HR
    isplitl [H2]; · iexact H2
    iexact W2
  ihave A2 := (Entails.of_eq (band_end x w 2 c)) $$ A2
  imod (close_ring x w κ κs 3 c) $$ [H3 W3] with ⟨A3, B3, S3⟩
  · isplitl []; · iexact HR
    isplitl [H3]; · iexact H3
    iexact W3
  ihave A3 := (Entails.of_eq (band_end x w 3 c)) $$ A3
  imod (close_cell x w κ κs c none 1 (duties_bar_later x w c)) $$ [Hat] with Hbar
  · isplitl []; · iexact HR
    iexact Hat
  ihave Ha := (Entails.of_eq (acc_bands c (accEnd x w c)).symm) $$ [A0 A1 A2 A3]
  · isplitl [A0]; · iexact A0
    isplitl [A1]; · iexact A1
    isplitl [A2]; · iexact A2
    iexact A3
  iapply (Scf.wp_for_bind frame (wpE (defs₀ (F := F)) 𝒱₀ (c : Thread nD τ) none) Set.univ _ _ _ k0_t3_ok ⟨⟩ _
    (fun k _ => iprop(outTo (scale sx sw c) (accEnd x w c) c k ∗ accPts c Finset.univ (accEnd x w c)))
    (fun k u => wp_outTrip (scale sx sw c) (accEnd x w c) c k u)) $$ [Ho Ha]
  · isplitl [Ho]
    · unfold outTo
      iexists g
      isplitl []
      · ipureintro; intro i hi; exact absurd hi (Nat.not_lt_zero _)
      iexact Ho
    iexact Ha
  iintro %u ⟨Ho, Ha⟩
  unfold outTo
  icases Ho with ⟨%g', %hg, Ho⟩
  have hgg : g' = outAt x w sx sw c := funext fun i => hg i (by
    have : (i 0).val < 4096 := (i 0).isLt
    have h16 : Scf.trips _ _ _ = 16 := trips3
    rw [h16]; omega)
  rw [hgg]
  iapply (wp_done (F := F) c _)
  unfold leave
  isplitl [Hx Hw Hsx Hsw Ho]
  · isplitl [Hx]; · iexact Hx
    isplitl [Hw]; · iexact Hw
    isplitl [Hsx]; · iexact Hsx
    isplitl [Hsw]; · iexact Hsw
    iexact Ho
  isplitl [Ha]
  · iexists _; iexact Ha
  isplitl [B0 B1 B2 B3]
  · isplitl [B0]; · iexact B0
    isplitl [B1]; · iexact B1
    isplitl [B2]; · iexact B2
    iexact B3
  isplitl [S0 S1 S2 S3]
  · isplitl [S0]; · iexact S0
    isplitl [S1]; · iexact S1
    isplitl [S2]; · iexact S2
    iexact S3
  isplitl [Hbar]; · iexact Hbar
  iexact HO

end Cert.Ring

end
-- ==== Proof.Deal.lean ====
module

public import proofs.«01_k».proof.Proof.Body
public import Idealize.ShloMosaic.Lib.Ring

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

/-! ## Families, taken apart -/

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A family over the kinds of cells: the barrier's, and per ring the five. -/
theorem bigSep_kinds (Φ : CK → sProp 𝕄) : bigSep Finset.univ Φ
    = iprop(Φ none ∗ bigSep Finset.univ fun r : Fin 4 => iprop(Φ (sndK r 0) ∗ Φ (sndK r 1) ∗ Φ (rcvK r 0) ∗ Φ (rcvK r 1) ∗ Φ (crdK r))) := by
  have e : (bigSep (Finset.univ.erase none) Φ : sProp 𝕄) = bigSep Finset.univ fun p : Fin 4 × Fin 5 => Φ (some p) := by
    rw [show (Finset.univ.erase none : Finset CK) = Finset.univ.map ⟨some, Option.some_injective _⟩ from by decide, bigSep_map]
    rfl
  rw [bigSep_univ_at Φ none, e, bigSep_univ_prod]
  refine congrArg _ (bigSep_congr fun r _ => ?_)
  rw [bigSep_five]
  rfl

/-- A family over pairs is a family of families. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert a s ha ih =>
    rw [bigSep_insert ha, ← ih, show insert a s ×ˢ t = t.image (Prod.mk a) ∪ s ×ˢ t from by
        ext ⟨i, j⟩; simp only [Finset.mem_product, Finset.mem_insert, Finset.mem_union, Finset.mem_image, Prod.mk.injEq]
        constructor
        · rintro ⟨rfl | h, hj⟩
          · exact Or.inl ⟨j, hj, rfl, rfl⟩
          · exact Or.inr ⟨h, hj⟩
        · rintro (⟨_, hj, rfl, rfl⟩ | ⟨h, hj⟩)
          · exact ⟨Or.inl rfl, hj⟩
          · exact ⟨Or.inr h, hj⟩,
      bigSep_union, bigSep_image_of_injOn (fun j _ j' _ h => congrArg Prod.snd h)]
    · rw [Finset.disjoint_left]
      intro p hp hq
      obtain ⟨j, _, rfl⟩ := Finset.mem_image.mp hp
      exact ha (Finset.mem_product.mp hq).1

/-- Even and odd members are the members in order. -/
theorem weave (Φ : Fin 2 → ℕ → sProp 𝕄) :
    iprop(bigSep (Finset.range 15) (Φ 0) ∗ bigSep (Finset.range 15) (Φ 1)) ⊢ bigSep (Finset.Ico 0 30) fun h => Φ (par h) (h / 2) := by
  rw [← Finset.range_eq_Ico, show (30 : ℕ) = 2 * 15 from rfl, Idealize.ShloMosaic.Ring.bigSep_range_deinterleave]
  have h0 (k : ℕ) : (Φ 0 k : sProp 𝕄) = Φ (par (2 * k)) (2 * k / 2) := by
    rw [show par (2 * k) = 0 from Fin.ext (by show 2 * k % 2 = 0; omega), show 2 * k / 2 = k by omega]
  have h1 (k : ℕ) : (Φ 1 k : sProp 𝕄) = Φ (par (2 * k + 1)) ((2 * k + 1) / 2) := by
    rw [show par (2 * k + 1) = 1 from Fin.ext (by show (2 * k + 1) % 2 = 1; omega), show (2 * k + 1) / 2 = k by omega]
  rw [bigSep_congr fun k _ => h0 k, bigSep_congr fun k _ => h1 k]

/-- A persistent fact joins every member. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What the launch mints -/

/-- Every cell of the protocol, -/
def allCells : Finset (GSem nD τ sig) :=
  Finset.univ.map ⟨fun p : Dev nD × CK => kcell p.1 p.2, fun p p' h => Prod.ext (kcell_inj h).1 (kcell_inj h).2⟩
/-- and of each cell a token per round and duty. -/
def allToks : Finset (GSem nD τ sig × ℕ × ℕ) :=
  ((Finset.univ : Finset (Dev nD × CK)) ×ˢ (Finset.range 15 ×ˢ Finset.range 28)).map
    ⟨fun q => (kcell q.1.1 q.1.2, q.2), fun q q' h => by
      have h1 := kcell_inj (congrArg Prod.fst h)
      exact Prod.ext (Prod.ext h1.1 h1.2) (show q.2 = q'.2 from congrArg (fun z : GSem nD τ sig × ℕ × ℕ => z.2) h)⟩

/-- The tokens of a cell. -/
def toks (c : Dev nD) (k : CK) : sProp 𝕄 := bigSep (Finset.range 15) fun rd => bigSep (Finset.range 28) fun d => dutyTok ER (kcell c k) rd d

/-- The slots' element, put at one device. -/
def slotSeed (c : Dev nD) : sProp 𝕄 := if c = 0 then BI.own (EK (initSlots (Finset.univ : Finset Key) 16)) else iprop(emp)

/-- What the launch deals a device. -/
def dealt (c : Dev nD) : sProp 𝕄 :=
  iprop((bigSep Finset.univ fun k => roundState ER (Rd x w) (kcell c k) 0) ∗ (bigSep Finset.univ fun k => reached ER (kcell c k) 0)
    ∗ (bigSep Finset.univ fun k => atPos ER (kcell c k) 0 ∅ 0) ∗ (bigSep Finset.univ fun k => toks c k) ∗ slotSeed c)

theorem fund_all : iprop(BI.own (ER (initOf allCells allToks)) ∗ BI.own (EK (initSlots (Finset.univ : Finset Key) 16)))
    ⊢ (|==> bigSep Finset.univ (dealt x w) : sProp 𝕄) := by
  have hX (Φ : GSem nD τ sig → sProp 𝕄) : bigSep allCells Φ = bigSep Finset.univ fun c : Dev nD => bigSep Finset.univ fun k : CK => Φ (kcell c k) := by
    unfold allCells; rw [bigSep_map, bigSep_univ_prod]; rfl
  have hT : bigSep allToks (fun z => (dutyTok ER z.1 z.2.1 z.2.2 : sProp 𝕄)) = bigSep Finset.univ fun c : Dev nD => bigSep Finset.univ fun k : CK => toks c k := by
    unfold allToks; rw [bigSep_map, bigSep_pairs, bigSep_univ_prod]
    refine bigSep_congr fun c _ => bigSep_congr fun k _ => ?_
    rw [bigSep_pairs]
    rfl
  have hS : (BI.own (EK (initSlots (Finset.univ : Finset Key) 16)) : sProp 𝕄) ⊢ bigSep Finset.univ fun c : Dev nD => slotSeed c := by
    rw [bigSep_univ_at _ (0 : Dev nD), show (slotSeed (0 : Dev nD) : sProp 𝕄) = BI.own (EK (initSlots (Finset.univ : Finset Key) 16)) from if_pos rfl]
    iintro H
    isplitl; · iexact H
    iapply (show (BI.emp : sProp 𝕄) ⊢ bigSep (Finset.univ.erase (0 : Dev nD)) fun c => slotSeed c from by
      rw [bigSep_congr (Φ := fun c : Dev nD => (slotSeed c : sProp 𝕄)) (Ψ := fun _ => (BI.emp : sProp 𝕄)) fun c hc => if_neg (Finset.ne_of_mem_erase hc), bigSep_emp_const])
    iempintro
  iintro ⟨HX, HS⟩
  imod (Rounds.fund ER (Rd x w) allCells allToks) $$ HX with ⟨Hst, Hr, Hat, Htok⟩
  imodintro
  ihave Hst' := (Entails.of_eq (hX fun g => roundState ER (Rd x w) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := hS $$ HS
  unfold dealt; simp only [bigSep_sep']
  isplitl [Hst']; · iexact Hst'
  isplitl [Hr']; · iexact Hr'
  isplitl [Hat']; · iexact Hat'
  isplitl [Htok']; · iexact Htok'
  iexact HS'

/-! ## The kernel's own semaphores -/

/-- The kernel's own semaphores: per ring the five. -/
def osem (i : Fin 20) : SemLoc sig := csem (some (⟨i.val / 5, by omega⟩, ⟨i.val % 5, by omega⟩))

theorem ownSemFacts : Pipeline.OwnSemFacts cfg0.spec osem := by decide +kernel

theorem ownSems0_eq (c : Dev nD) : (Pipeline.ownSems0 (Ix := ℕ) (Name := ℕ) (U := UU) (Lvl := ℕ) (Val := Elt F) (τ := τ) osem c : sProp 𝕄)
    = bigSep Finset.univ fun r : Fin 4 => semsOff r c := by
  rw [Pipeline.ownSems0_eq_of_list c osem [0, 1, 2, 3, 4, 5, 6, 7, 8, 9, 10, 11, 12, 13, 14, 15, 16, 17, 18, 19] (by decide) (by decide), bigSep_four]
  refine BI.Entails.antisymm (show _ ⊢ (_ : sProp 𝕄) from ?_) (show _ ⊢ (_ : sProp 𝕄) from ?_)
  · show iprop(semVal (kcell c (sndK 0 0)) 0 ∗ semVal (kcell c (sndK 0 1)) 0 ∗ semVal (kcell c (rcvK 0 0)) 0 ∗ semVal (kcell c (rcvK 0 1)) 0 ∗ semVal (kcell c (crdK 0)) 0
      ∗ semVal (kcell c (sndK 1 0)) 0 ∗ semVal (kcell c (sndK 1 1)) 0 ∗ semVal (kcell c (rcvK 1 0)) 0 ∗ semVal (kcell c (rcvK 1 1)) 0 ∗ semVal (kcell c (crdK 1)) 0
      ∗ semVal (kcell c (sndK 2 0)) 0 ∗ semVal (kcell c (sndK 2 1)) 0 ∗ semVal (kcell c (rcvK 2 0)) 0 ∗ semVal (kcell c (rcvK 2 1)) 0 ∗ semVal (kcell c (crdK 2)) 0
      ∗ semVal (kcell c (sndK 3 0)) 0 ∗ semVal (kcell c (sndK 3 1)) 0 ∗ semVal (kcell c (rcvK 3 0)) 0 ∗ semVal (kcell c (rcvK 3 1)) 0 ∗ semVal (kcell c (crdK 3)) 0) ⊢ _
    unfold semsOff
    iintro ⟨A0, A1, A2, A3, A4, B0, B1, B2, B3, B4, C0, C1, C2, C3, C4, D⟩
    isplitl [A0 A1 A2 A3 A4]
    · iframe
    isplitl [B0 B1 B2 B3 B4]
    · iframe
    isplitl [C0 C1 C2 C3 C4]
    · iframe
    iexact D
  · unfold semsOff
    show _ ⊢ iprop(semVal (kcell c (sndK 0 0)) 0 ∗ semVal (kcell c (sndK 0 1)) 0 ∗ semVal (kcell c (rcvK 0 0)) 0 ∗ semVal (kcell c (rcvK 0 1)) 0 ∗ semVal (kcell c (crdK 0)) 0
      ∗ semVal (kcell c (sndK 1 0)) 0 ∗ semVal (kcell c (sndK 1 1)) 0 ∗ semVal (kcell c (rcvK 1 0)) 0 ∗ semVal (kcell c (rcvK 1 1)) 0 ∗ semVal (kcell c (crdK 1)) 0
      ∗ semVal (kcell c (sndK 2 0)) 0 ∗ semVal (kcell c (sndK 2 1)) 0 ∗ semVal (kcell c (rcvK 2 0)) 0 ∗ semVal (kcell c (rcvK 2 1)) 0 ∗ semVal (kcell c (crdK 2)) 0
      ∗ semVal (kcell c (sndK 3 0)) 0 ∗ semVal (kcell c (sndK 3 1)) 0 ∗ semVal (kcell c (rcvK 3 0)) 0 ∗ semVal (kcell c (rcvK 3 1)) 0 ∗ semVal (kcell c (crdK 3)) 0)
    iintro ⟨⟨A0, A1, A2, A3, A4⟩, ⟨B0, B1, B2, B3, B4⟩, ⟨C0, C1, C2, C3, C4⟩, D⟩
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [C0]; · iexact C0
    isplitl [C1]; · iexact C1
    isplitl [C2]; · iexact C2
    isplitl [C3]; · iexact C3
    isplitl [C4]; · iexact C4
    iexact D

theorem unscopedSems0_eq (c : Dev nD) : (unscopedSems0 c : sProp 𝕄) = semVal (kcell c none) 0 := by
  unfold unscopedSems0; rw [bigSep_eq_bigSepL_of_eq [csem none] (by decide) (by decide)]; rfl

theorem sems0_all (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell c k) 0 : sProp 𝕄) := by
  rw [ownSems0_eq, unscopedSems0_eq, bigSep_kinds]
  exact Laws.sep_comm.1

end Cert.Ring

end
-- ==== Proof.Hand.lean ====
module

public import proofs.«01_k».proof.Proof.Deal

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

/-- Two families exchanged. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1), bigSep_univ_equiv (Equiv.prodComm J I)]
  rfl

/-! ## A device's own tokens, by ring -/

def sndOwn (r : Fin 4) (c : Dev nD) : sProp 𝕄 := bigSep (Finset.Ico 0 30) fun h => dutyTok ER (kcell c (sndK r (par h))) (h / 2) 0
def rcvOwn (r : Fin 4) (c : Dev nD) : sProp 𝕄 := bigSep (Finset.Ico 0 30) fun h => dutyTok ER (kcell c (rcvK r (par h))) (h / 2) 0
def crdOwn (r : Fin 4) (c : Dev nD) : sProp 𝕄 := bigSep (Finset.Ico 0 28) fun h => dutyTok ER (kcell c (crdK r)) 0 h
def wrOwn (r : Fin 4) (c : Dev nD) : sProp 𝕄 := bigSep (Finset.Ico 0 30) fun h => writeTok EK (c, r, par h) (h / 2 + 1)

theorem toks_first (c : Dev nD) (k : CK) : (toks c k : sProp 𝕄) ⊢ bigSep (Finset.range 15) fun rd => dutyTok ER (kcell c k) rd 0 := by
  unfold toks
  exact bigSep_mono fun rd _ => bigSep_elim (Φ := fun d => (dutyTok ER (kcell c k) rd d : sProp 𝕄)) (Finset.mem_range.mpr (by decide : 0 < 28))
theorem toks_zero (c : Dev nD) (k : CK) : (toks c k : sProp 𝕄) ⊢ bigSep (Finset.Ico 0 28) fun d => dutyTok ER (kcell c k) 0 d := by
  unfold toks
  rw [← Finset.range_eq_Ico]
  exact bigSep_elim (Φ := fun rd => (bigSep (Finset.range 28) fun d => dutyTok ER (kcell c k) rd d : sProp 𝕄)) (Finset.mem_range.mpr (by decide : 0 < 15))

theorem toks_ring (r : Fin 4) (c : Dev nD) :
    iprop(toks c (sndK r 0) ∗ toks c (sndK r 1) ∗ toks c (rcvK r 0) ∗ toks c (rcvK r 1) ∗ toks c (crdK r))
      ⊢ (iprop(sndOwn r c ∗ rcvOwn r c ∗ crdOwn r c) : sProp 𝕄) := by
  unfold sndOwn rcvOwn crdOwn
  iintro ⟨H0, H1, H2, H3, H4⟩
  isplitl [H0 H1]
  · iapply (weave fun s rd => (dutyTok ER (kcell c (sndK r s)) rd 0 : sProp 𝕄))
    isplitl [H0]
    · iapply (toks_first c (sndK r 0)); iexact H0
    · iapply (toks_first c (sndK r 1)); iexact H1
  isplitl [H2 H3]
  · iapply (weave fun s rd => (dutyTok ER (kcell c (rcvK r s)) rd 0 : sProp 𝕄))
    isplitl [H2]
    · iapply (toks_first c (rcvK r 0)); iexact H2
    · iapply (toks_first c (rcvK r 1)); iexact H3
  iapply (toks_zero c (crdK r)); iexact H4

theorem toks_bar (c : Dev nD) : (toks c none : sProp 𝕄) ⊢ iprop(dutyTok ER (kcell c none) 0 0 ∗ dutyTok ER (kcell c none) 0 1) := by
  refine (toks_zero c none).trans ?_
  rw [bigSep_peel (by decide : 0 < 28), bigSep_peel (by decide : 0 + 1 < 28)]
  iintro ⟨H0, H1, -⟩
  isplitl [H0]; · iexact H0
  iexact H1

theorem writes_ring (r : Fin 4) (c : Dev nD) :
    (bigSep Finset.univ fun s : Fin 2 => bigSep (Finset.range 16) fun i => writeTok EK ((c, r, s) : Key) (i + 1))
      ⊢ (iprop(wrOwn r c ∗ lastTok r c) : sProp 𝕄) := by
  have h (s : Fin 2) : (bigSep (Finset.range 16) fun i => (writeTok EK ((c, r, s) : Key) (i + 1) : sProp 𝕄))
      = iprop(writeTok EK (c, r, s) 16 ∗ bigSep (Finset.range 15) fun i => writeTok EK ((c, r, s) : Key) (i + 1)) := by
    rw [Finset.range_add_one, bigSep_insert Finset.notMem_range_self]
    rfl
  rw [BI.bigSep_univ_two, h 0, h 1]
  unfold wrOwn lastTok
  iintro ⟨⟨L0, H0⟩, L1, H1⟩
  isplitl [H0 H1]
  · iapply (weave fun s i => (writeTok EK ((c, r, s) : Key) (i + 1) : sProp 𝕄))
    isplitl [H0]; · iexact H0
    iexact H1
  isplitl [L0]; · iexact L0
  iexact L1

/-! ## Tokens to the devices that spend them -/

/-- What a device holds of a ring before it starts, but for positions and credits. -/
def ringLin (r : Fin 4) (c : Dev nD) : sProp 𝕄 :=
  iprop(sndTok r c 0 ∗ crdTok r c 0 ∗ lastTok r c ∗ (readerAt EK (c, r, 0) 0 ∗ readerAt EK (c, r, 1) 0))

theorem ring_around (r : Fin 4) :
    iprop((bigSep Finset.univ fun c : Dev nD => iprop(sndOwn r c ∗ rcvOwn r c ∗ crdOwn r c)) ∗ (bigSep Finset.univ fun c : Dev nD => iprop(wrOwn r c ∗ lastTok r c))
        ∗ bigSep Finset.univ fun c : Dev nD => iprop(readerAt EK (c, r, 0) 0 ∗ readerAt EK (c, r, 1) 0))
      ⊢ (bigSep Finset.univ fun c : Dev nD => ringLin r c : sProp 𝕄) := by
  have e1 : (fun c : Dev nD => (sndTok r c 0 : sProp 𝕄)) = fun c => iprop(sndOwn r c ∗ rcvOwn r (tgt r c) ∗ wrOwn r (tgt r c)) := by
    funext c
    unfold sndTok sndOwn rcvOwn wrOwn
    rw [bigSep_sep', bigSep_sep']
  have e2 : (fun c : Dev nD => (crdTok r c 0 : sProp 𝕄)) = fun c => crdOwn r (org r c) := rfl
  have u1 := bigSep_univ_equiv (ringEquiv r) (fun c : Dev nD => (rcvOwn r c : sProp 𝕄))
  have u2 := bigSep_univ_equiv (ringEquiv r) (fun c : Dev nD => (wrOwn r c : sProp 𝕄))
  have u3 := bigSep_univ_equiv (ringEquiv r).symm (fun c : Dev nD => (crdOwn r c : sProp 𝕄))
  unfold ringLin
  simp only [bigSep_sep'] at *
  rw [e1, e2, bigSep_sep', bigSep_sep', u1, u2, u3]
  iintro ⟨⟨H1, H2, H3⟩, ⟨H4, H5⟩, H6, H7⟩
  isplitl [H1 H2 H4]
  · isplitl [H1]; · iexact H1
    isplitl [H2]; · iexact H2
    iexact H4
  isplitl [H3]; · iexact H3
  isplitl [H5]; · iexact H5
  isplitl [H6]; · iexact H6
  iexact H7

def nbr : Dev nD ≃ Dev nD := ⟨fun c => shift c 15, fun c => shift c 1, shift_back, shift_fwd⟩

theorem bar_around :
    (bigSep Finset.univ fun c : Dev nD => iprop(dutyTok ER (kcell c none) 0 0 ∗ dutyTok ER (kcell c none) 0 1))
      ⊢ (bigSep Finset.univ fun c : Dev nD => iprop(dutyTok ER (kcell (shift c 15) none) 0 0 ∗ dutyTok ER (kcell (shift c 1) none) 0 1) : sProp 𝕄) := by
  rw [bigSep_sep', bigSep_sep', bigSep_univ_equiv nbr (fun c : Dev nD => (dutyTok ER (kcell c none) 0 0 : sProp 𝕄)),
    bigSep_univ_equiv nbr.symm (fun c : Dev nD => (dutyTok ER (kcell c none) 0 1 : sProp 𝕄))]
  exact .rfl

/-! ## The global step -/

/-- The invariants and the first rounds, without the levels. -/
def recs (κ : Dev nD × CK → ℕ) (κs : Key → ℕ) : sProp 𝕄 :=
  iprop((bigSep Finset.univ fun p : Dev nD × CK => cellInv ER (Rd x w) (κ p) (kcell p.1 p.2))
    ∗ (bigSep Finset.univ fun p : Dev nD × CK => reached ER (kcell p.1 p.2) 0)
    ∗ (bigSep Finset.univ fun k : Key => slotInv EK (κs k) k (slotAny k)))
instance recs_persistent : BI.Persistent (recs x w κ κs : sProp 𝕄) := by unfold recs; infer_instance

/-- What stays with a device. -/
def devLin (c : Dev nD) : sProp 𝕄 :=
  iprop((bigSep Finset.univ fun r : Fin 4 => ringLin r c) ∗ (bigSep Finset.univ fun k => atPos ER (kcell c k) 0 ∅ 0)
    ∗ dutyTok ER (kcell (shift c 15) none) 0 0 ∗ dutyTok ER (kcell (shift c 1) none) 0 1)
def devGhost (c : Dev nD) : sProp 𝕄 := iprop(∃ κ κs, recs x w κ κs ∗ devLin c)

theorem cells_alloc (c : Dev nD) :
    iprop(Pipeline.ownSems0 (Ix := ℕ) (Name := ℕ) (U := UU) (Lvl := ℕ) (Val := Elt F) (τ := τ) osem c ∗ unscopedSems0 c ∗ dealt x w c)
      ⊢ |={Set.univ}=> (iprop((bigSep Finset.univ fun k => iprop(∃ κ : ℕ, cellInv ER (Rd x w) κ (kcell c k)))
          ∗ (bigSep Finset.univ fun k => reached ER (kcell c k) 0) ∗ (bigSep Finset.univ fun k => atPos ER (kcell c k) 0 ∅ 0)
          ∗ (bigSep Finset.univ fun k => toks c k) ∗ slotSeed c) : sProp 𝕄) := by
  unfold dealt
  iintro ⟨Hos, Hus, Hst, Hr, Hat, Htok, HS⟩
  ihave Hv := (sems0_all (F := F) c) $$ [Hos Hus]
  · isplitl [Hos] <;> iassumption
  imod (show iprop((bigSep Finset.univ fun k : CK => semVal (kcell c k) 0) ∗ bigSep Finset.univ fun k : CK => roundState ER (Rd x w) (kcell c k) 0)
      ⊢ (|={Set.univ}=> bigSep Finset.univ fun k : CK => iprop(∃ κ : ℕ, cellInv ER (Rd x w) κ (kcell c k)) : sProp 𝕄) from by
        rw [← bigSep_sep']
        exact (bigSep_mono fun k _ => (Rounds.body_intro ER (Rd x w) (kcell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HS

theorem key_family (Φ : Key → sProp 𝕄) : bigSep Finset.univ Φ
    = bigSep Finset.univ fun r : Fin 4 => bigSep Finset.univ fun c : Dev nD => bigSep Finset.univ fun s : Fin 2 => Φ (c, r, s) := by
  rw [bigSep_univ_prod, bigSep_congr (fun c _ => bigSep_univ_prod _), bigSep_swap]

theorem toks_dev : (bigSep Finset.univ fun c : Dev nD => bigSep Finset.univ fun k : CK => toks c k)
    ⊢ (iprop((bigSep Finset.univ fun c : Dev nD => iprop(dutyTok ER (kcell c none) 0 0 ∗ dutyTok ER (kcell c none) 0 1))
      ∗ bigSep Finset.univ fun r : Fin 4 => bigSep Finset.univ fun c : Dev nD => iprop(sndOwn r c ∗ rcvOwn r c ∗ crdOwn r c)) : sProp 𝕄) := by
  rw [bigSep_swap (Φ := fun (r : Fin 4) (c : Dev nD) => (iprop(sndOwn r c ∗ rcvOwn r c ∗ crdOwn r c) : sProp 𝕄)), ← bigSep_sep']
  refine bigSep_mono fun c _ => ?_
  rw [bigSep_kinds]
  exact BIClass.sep_mono (toks_bar c) (bigSep_mono fun r _ => toks_ring r c)

theorem slots_open : (BI.own (EK (initSlots (Finset.univ : Finset Key) 16)) : sProp 𝕄)
    ⊢ |={Set.univ}=> iprop(∃ κs : Key → ℕ, (bigSep Finset.univ fun k : Key => slotInv EK (κs k) k (slotAny k))
      ∗ (bigSep Finset.univ fun r : Fin 4 => bigSep Finset.univ fun c : Dev nD => iprop(readerAt EK (c, r, 0) 0 ∗ readerAt EK (c, r, 1) 0))
      ∗ bigSep Finset.univ fun r : Fin 4 => bigSep Finset.univ fun c : Dev nD => iprop(wrOwn r c ∗ lastTok r c)) := by
  iintro H
  imod (slots_init EK (Finset.univ : Finset Key) 16 (fun k => (slotAny k : sProp 𝕄))) $$ H with ⟨%κs, -, HI, HR, HW⟩
  imodintro
  iexists κs
  isplitl [HI]; · iexact HI
  isplitl [HR]
  · iapply (Entails.of_eq ((key_family fun k => (readerAt EK k 0 : sProp 𝕄)).trans
      (bigSep_congr fun r _ => bigSep_congr fun c _ => BI.bigSep_univ_two _)))
    iexact HR
  · iapply ((Entails.of_eq ((bigSep_pairs (Finset.univ : Finset Key) (Finset.range 16) fun z => (writeTok EK z.1 (z.2 + 1) : sProp 𝕄)).trans
      (key_family fun k => (bigSep (Finset.range 16) fun i => writeTok EK k (i + 1) : sProp 𝕄)))).trans
      (bigSep_mono fun r _ => bigSep_mono fun c _ => writes_ring r c))
    iexact HW

theorem regroup :
    (bigSep Finset.univ fun c : Dev nD => iprop((bigSep Finset.univ fun k => iprop(∃ κ : ℕ, cellInv ER (Rd x w) κ (kcell c k)))
          ∗ (bigSep Finset.univ fun k => reached ER (kcell c k) 0) ∗ (bigSep Finset.univ fun k => atPos ER (kcell c k) 0 ∅ 0)
          ∗ (bigSep Finset.univ fun k => toks c k) ∗ slotSeed c))
      ⊢ (|={Set.univ}=> bigSep Finset.univ (devGhost x w) : sProp 𝕄) := by
  rw [bigSep_sep', bigSep_sep', bigSep_sep', bigSep_sep', ← bigSep_univ_prod (fun p : Dev nD × CK => (iprop(∃ κ : ℕ, cellInv ER (Rd x w) κ (kcell p.1 p.2)) : sProp 𝕄)),
    ← bigSep_univ_prod (fun p : Dev nD × CK => (reached ER (kcell p.1 p.2) 0 : sProp 𝕄))]
  iintro ⟨HI, #HR, Hat, Htok, HS⟩
  ihave HK := (BI.bigSep_exists_pi Finset.univ (fun (p : Dev nD × CK) (κ : ℕ) => (cellInv ER (Rd x w) κ (kcell p.1 p.2) : sProp 𝕄))) $$ HI
  icases HK with ⟨%κ, #HI⟩
  ihave HS' := (show (bigSep Finset.univ fun c : Dev nD => (slotSeed c : sProp 𝕄)) ⊢ BI.own (EK (initSlots (Finset.univ : Finset Key) 16)) from by
    rw [bigSep_univ_at _ (0 : Dev nD), show (slotSeed (0 : Dev nD) : sProp 𝕄) = BI.own (EK (initSlots (Finset.univ : Finset Key) 16)) from if_pos rfl]
    iintro ⟨H, -⟩
    iexact H) $$ HS
  imod (slots_open) $$ HS' with ⟨%κs, #HsI, Hrd, Hwr⟩
  ihave Ht := (toks_dev) $$ Htok
  icases Ht with ⟨Hb, Htk⟩
  ihave Hb' := (bar_around) $$ Hb
  ihave Hring := (show iprop((bigSep Finset.univ fun r : Fin 4 => bigSep Finset.univ fun c : Dev nD => iprop(sndOwn r c ∗ rcvOwn r c ∗ crdOwn r c))
        ∗ (bigSep Finset.univ fun r : Fin 4 => bigSep Finset.univ fun c : Dev nD => iprop(wrOwn r c ∗ lastTok r c))
        ∗ bigSep Finset.univ fun r : Fin 4 => bigSep Finset.univ fun c : Dev nD => iprop(readerAt EK (c, r, 0) 0 ∗ readerAt EK (c, r, 1) 0))
      ⊢ (bigSep Finset.univ fun c : Dev nD => bigSep Finset.univ fun r : Fin 4 => ringLin r c : sProp 𝕄) from by
    rw [← bigSep_sep', ← bigSep_sep', bigSep_swap (Φ := fun (c : Dev nD) (r : Fin 4) => (ringLin r c : sProp 𝕄))]
    exact bigSep_mono fun r _ => ring_around r) $$ [Htk Hwr Hrd]
  · isplitl [Htk]; · iexact Htk
    isplitl [Hwr]; · iexact Hwr
    iexact Hrd
  imodintro
  iapply (with_all (S := Finset.univ) (R := recs x w κ κs) (Φ := devLin) (Ψ := devGhost x w) fun c _ => by
    unfold devGhost
    iintro ⟨H, H'⟩
    iexists κ; iexists κs
    isplitl [H]; · iexact H
    iexact H')
  isplitl []
  · unfold recs
    isplitl []; · iexact HI
    isplitl []; · iexact HR
    iexact HsI
  iapply (show iprop((bigSep Finset.univ fun c : Dev nD => bigSep Finset.univ fun r : Fin 4 => ringLin r c)
      ∗ (bigSep Finset.univ fun c : Dev nD => bigSep Finset.univ fun k : CK => atPos ER (kcell c k) 0 ∅ 0)
      ∗ bigSep Finset.univ fun c : Dev nD => iprop(dutyTok ER (kcell (shift c 15) none) 0 0 ∗ dutyTok ER (kcell (shift c 1) none) 0 1))
    ⊢ (bigSep Finset.univ devLin : sProp 𝕄) from by
      rw [← bigSep_sep', ← bigSep_sep']
      exact .rfl)
  isplitl [Hring]; · iexact Hring
  isplitl [Hat]; · iexact Hat
  iexact Hb'

theorem glob : (bigSep Finset.univ fun c => iprop(Pipeline.ownSems0 (Ix := ℕ) (Name := ℕ) (U := UU) (Lvl := ℕ) (Val := Elt F) (τ := τ) osem c ∗ unscopedSems0 c ∗ dealt x w c) : sProp 𝕄)
    ⊢ |={Set.univ}=> bigSep Finset.univ (devGhost x w) := by
  iintro H
  imod (show _ ⊢ (_ : sProp 𝕄) from (bigSep_mono (s := Finset.univ) fun c _ => cells_alloc x w c).trans (bigSep_fupd _ _)) $$ H with H
  iapply (regroup x w)
  iexact H

end Cert.Ring

end
-- ==== Proof.Cred.lean ====
module

public import proofs.«01_k».proof.Proof.Hand

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (x : Dev nD → Vec F S4096x256 .fp8e4m3) (w : Dev nD → Vec F S256x2048 .fp8e4m3)
variable (κ : Dev nD × CK → ℕ) (κs : Key → ℕ)

/-! ## The credits of the launch -/

/-- What a device is credited with. -/
def creds (c : Dev nD) : sProp 𝕄 :=
  iprop((bigSep Finset.univ fun r : Fin 4 => iprop((bigSep (Finset.Ico 0 30) fun h => cred (tallyAt (kcell c (rcvK r (par h))) h N))
      ∗ bigSep (Finset.Ico 0 28) fun h => cred (tallyAt (kcell c (crdK r)) h 1)))
    ∗ cred (tallyAt (kcell c none) 0 2))

theorem launch_creds (c : Dev nD) : (Pipeline.launchCred owed0 c : sProp 𝕄) ⊢ creds c := by
  unfold creds owed0 owed owedV owedK
  rw [Pipeline.launchCred_add, Pipeline.launchCred_add, Pipeline.launchCred_sum]
  have hb : iprop(cred (tallyAt (kcell c none) 0 1) ∗ cred (tallyAt (kcell c none) 0 1)) ⊢ (cred (tallyAt (kcell c none) 0 2) : sProp 𝕄) := by
    rw [show (tallyAt (kcell c none) 0 2 : CellTallies nD τ sig ℕ) = tallyAt (kcell c none) 0 1 + tallyAt (kcell c none) 0 1 from (tallyAt_add (kcell c none) 0 1 1).symm]
    exact (cred_add _ _).2
  iintro ⟨⟨HR, H1⟩, H2⟩
  isplitl [HR]
  · iapply (show (bigSep Finset.univ fun r : Fin 4 => Pipeline.launchCred (fun d => (∑ h ∈ Finset.Ico 0 30, tallyAt (kcell (tgt r d) (rcvK r (par h))) h N)
          + ∑ h ∈ Finset.Ico 0 28, tallyAt (kcell (org r d) (crdK r)) h 1) c)
        ⊢ (bigSep Finset.univ fun r : Fin 4 => iprop((bigSep (Finset.Ico 0 30) fun h => cred (tallyAt (kcell c (rcvK r (par h))) h N))
      ∗ bigSep (Finset.Ico 0 28) fun h => cred (tallyAt (kcell c (crdK r)) h 1)) : sProp 𝕄) from bigSep_mono fun r _ => show _ ⊢ (_ : sProp 𝕄) from by
        rw [Pipeline.launchCred_add, Pipeline.launchCred_sum, Pipeline.launchCred_sum]
        iintro ⟨HV, HK⟩
        isplitl [HV]
        · iapply (show _ ⊢ (_ : sProp 𝕄) from bigSep_mono (s := Finset.Ico 0 30) fun h _ => Pipeline.launchCred_tallyAt (csem (rcvK r (par h))) (tgt r) (org r) (tgt_org r) (org_tgt r) h N c)
          iexact HV
        · iapply (show _ ⊢ (_ : sProp 𝕄) from bigSep_mono (s := Finset.Ico 0 28) fun h _ => Pipeline.launchCred_tallyAt (csem (crdK r)) (org r) (tgt r) (org_tgt r) (tgt_org r) h 1 c)
          iexact HK)
    iexact HR
  iapply hb
  isplitl [H1]
  · iapply (Pipeline.launchCred_tallyAt (csem none) (fun d => shift d 1) (fun d => shift d 15) shift_back shift_fwd 0 1 c); iexact H1
  · iapply (Pipeline.launchCred_tallyAt (csem none) (fun d => shift d 15) (fun d => shift d 1) shift_fwd shift_back 0 1 c); iexact H2

/-! ## What a device enters with -/

/-- Before the kernel starts. -/
def start (c : Dev nD) : sProp 𝕄 :=
  iprop(∃ κ κs, records x w κ κs ∗ (ring0 0 c ∗ ring0 1 c ∗ ring0 2 c ∗ ring0 3 c) ∗ barTok c ∗ (lastTok 0 c ∗ lastTok 1 c ∗ lastTok 2 c ∗ lastTok 3 c))

theorem mk_ring (r : Fin 4) (c : Dev nD) :
    iprop(records x w κ κs ∗ ringLin r c
        ∗ (atPos ER (kcell c (sndK r 0)) 0 ∅ 0 ∗ atPos ER (kcell c (sndK r 1)) 0 ∅ 0 ∗ atPos ER (kcell c (rcvK r 0)) 0 ∅ 0
          ∗ atPos ER (kcell c (rcvK r 1)) 0 ∅ 0 ∗ atPos ER (kcell c (crdK r)) 0 ∅ 0)
        ∗ ((bigSep (Finset.Ico 0 30) fun h => cred (tallyAt (kcell c (rcvK r (par h))) h N))
          ∗ bigSep (Finset.Ico 0 28) fun h => cred (tallyAt (kcell c (crdK r)) h 1)))
      ⊢ (iprop(ring0 r c ∗ lastTok r c) : sProp 𝕄) := by
  have e0 : par 0 = (0 : Fin 2) := rfl
  have e1 : par (0 + 1) = (1 : Fin 2) := rfl
  unfold ringLin ring0 posS posV posC crdPos
  rw [e0, e1, show 0 / 2 = 0 from rfl]
  iintro ⟨#HR, ⟨T1, T2, TL, TR⟩, ⟨A0, A1, A2, A3, A4⟩, C1, C2⟩
  ihave #R0 := (rec_reached x w κ κs c (sndK r 0)) $$ HR
  ihave #R1 := (rec_reached x w κ κs c (sndK r 1)) $$ HR
  ihave #R2 := (rec_reached x w κ κs c (rcvK r 0)) $$ HR
  ihave #R3 := (rec_reached x w κ κs c (rcvK r 1)) $$ HR
  isplitr [TL]
  · isplitl [T1]; · iexact T1
    isplitl [A0 A1]
    · isplitl [A0]
      · isplitl [A0]; · iexact A0
        iexact R0
      isplitl [A1]; · iexact A1
      iexact R1
    isplitl [A2 A3 C1]
    · isplitr [C1]
      · isplitl [A2]
        · isplitl [A2]; · iexact A2
          iexact R2
        isplitl [A3]; · iexact A3
        iexact R3
      iexact C1
    isplitl [TR]; · iexact TR
    isplitl [T2]; · iexact T2
    iexists (∅ : Finset ℕ)
    isplitl []
    · ipureintro
      exact ⟨Finset.empty_subset _, by decide⟩
    isplitl [A4]; · iexact A4
    isplitl []
    · rw [bigSep_empty]; iempintro
    iexact C2
  iexact TL

theorem mk_records : iprop(recs x w κ κs ∗ levs) ⊢ (records x w κ κs : sProp 𝕄) := by
  unfold recs records
  iintro ⟨⟨H1, H2, H3⟩, H4⟩
  isplitl [H1]; · iexact H1
  isplitl [H2]; · iexact H2
  isplitl [H3]; · iexact H3
  iexact H4

theorem mk_start (c : Dev nD) : iprop(devGhost x w c ∗ levs ∗ creds c) ⊢ (start x w c : sProp 𝕄) := by
  unfold devGhost devLin creds start barTok
  rw [bigSep_kinds, bigSep_four, bigSep_four, bigSep_four]
  iintro ⟨⟨%κ, %κs, Hrec, ⟨L0, L1, L2, L3⟩, ⟨AB, A0, A1, A2, A3⟩, B0, B1⟩, Hlev, ⟨C0, C1, C2, C3⟩, CB⟩
  ihave #HR := (mk_records x w κ κs) $$ [Hrec Hlev]
  · isplitl [Hrec] <;> iassumption
  ihave H0 := (mk_ring x w κ κs 0 c) $$ [L0 A0 C0]
  · isplitl []; · iexact HR
    isplitl [L0]; · iexact L0
    isplitl [A0] <;> iassumption
  ihave H1 := (mk_ring x w κ κs 1 c) $$ [L1 A1 C1]
  · isplitl []; · iexact HR
    isplitl [L1]; · iexact L1
    isplitl [A1] <;> iassumption
  ihave H2 := (mk_ring x w κ κs 2 c) $$ [L2 A2 C2]
  · isplitl []; · iexact HR
    isplitl [L2]; · iexact L2
    isplitl [A2] <;> iassumption
  ihave H3 := (mk_ring x w κ κs 3 c) $$ [L3 A3 C3]
  · isplitl []; · iexact HR
    isplitl [L3]; · iexact L3
    isplitl [A3] <;> iassumption
  icases H0 with ⟨G0, E0⟩
  icases H1 with ⟨G1, E1⟩
  icases H2 with ⟨G2, E2⟩
  icases H3 with ⟨G3, E3⟩
  iexists κ; iexists κs
  isplitl []; · iexact HR
  isplitl [G0 G1 G2 G3]
  · isplitl [G0]; · iexact G0
    isplitl [G1]; · iexact G1
    isplitl [G2] <;> iassumption
  isplitl [AB B0 B1 CB]
  · isplitl [AB]; · iexact AB
    isplitl [B0]; · iexact B0
    isplitl [B1] <;> iassumption
  isplitl [E0]; · iexact E0
  isplitl [E1]; · iexact E1
  isplitl [E2] <;> iassumption

/-! ## The landing buffers as two slots -/

theorem mem_slotRect (s : Fin 2) (i : S2x256x512.Idx) :
    i ∈ (Rect.unit (s := S2x256x512) (slotOff s.val) S1x256x512.size (slotOff_inb s)).set ↔ (i 0).val = s.val := by
  rw [Rect.mem_set_unit]
  constructor
  · intro h
    have h0 := h 0
    have e0 : slotOff s.val 0 = s.val := rfl
    have e1 : S1x256x512.size 0 = 1 := rfl
    omega
  · intro h a
    have i1 : (i 1).val < 256 := (i 1).isLt
    have i2 : (i 2).val < 512 := (i 2).isLt
    fin_cases a
    · show s.val ≤ (i 0).val ∧ (i 0).val < s.val + 1; omega
    · show 0 ≤ (i 1).val ∧ (i 1).val < 0 + 256; omega
    · show 0 ≤ (i 2).val ∧ (i 2).val < 0 + 512; omega

theorem rects_disjoint : Disjoint (Rect.unit (s := S2x256x512) (slotOff (0 : Fin 2).val) S1x256x512.size (slotOff_inb 0)).set
    (Rect.unit (s := S2x256x512) (slotOff (1 : Fin 2).val) S1x256x512.size (slotOff_inb 1)).set := by
  rw [Finset.disjoint_left]
  intro i h0 h1
  have h := ((mem_slotRect 0 i).mp h0).symm.trans ((mem_slotRect 1 i).mp h1)
  exact absurd h (by decide)
theorem rects_cover : (Rect.unit (s := S2x256x512) (slotOff (0 : Fin 2).val) S1x256x512.size (slotOff_inb 0)).set
    ∪ (Rect.unit (s := S2x256x512) (slotOff (1 : Fin 2).val) S1x256x512.size (slotOff_inb 1)).set = Finset.univ := by
  ext i
  simp only [Finset.mem_univ, iff_true, Finset.mem_union]
  have h : (i 0).val < 2 := (i 0).isLt
  rcases (show (i 0).val = 0 ∨ (i 0).val = 1 by omega) with h | h
  · exact Or.inl ((mem_slotRect 0 i).mpr h)
  · exact Or.inr ((mem_slotRect 1 i).mpr h)

theorem slots_disjoint : ∀ r : Fin 4, Disjoint (slotV r 0).set (slotV r 1).set
  | 0 => by
    have e (s : Fin 2) : (slotV 0 s).set = (Rect.unit (s := S2x256x512) (slotOff s.val) S1x256x512.size (slotOff_inb s)).set := View.set_slice_whole _ _
    rw [e 0, e 1]; exact rects_disjoint
  | 1 => by
    have e (s : Fin 2) : (slotV 1 s).set = (Rect.unit (s := S2x256x512) (slotOff s.val) S1x256x512.size (slotOff_inb s)).set := View.set_slice_whole _ _
    rw [e 0, e 1]; exact rects_disjoint
  | 2 => by
    have e (s : Fin 2) : (slotV 2 s).set = (Rect.unit (s := S2x256x512) (slotOff s.val) S1x256x512.size (slotOff_inb s)).set := View.set_slice_whole _ _
    rw [e 0, e 1]; exact rects_disjoint
  | 3 => by
    have e (s : Fin 2) : (slotV 3 s).set = (Rect.unit (s := S2x256x512) (slotOff s.val) S1x256x512.size (slotOff_inb s)).set := View.set_slice_whole _ _
    rw [e 0, e 1]; exact rects_disjoint
theorem slots_cover : ∀ r : Fin 4, (slotV r 0).set ∪ (slotV r 1).set = Finset.univ
  | 0 => by
    have e (s : Fin 2) : (slotV 0 s).set = (Rect.unit (s := S2x256x512) (slotOff s.val) S1x256x512.size (slotOff_inb s)).set := View.set_slice_whole _ _
    rw [e 0, e 1]; exact rects_cover
  | 1 => by
    have e (s : Fin 2) : (slotV 1 s).set = (Rect.unit (s := S2x256x512) (slotOff s.val) S1x256x512.size (slotOff_inb s)).set := View.set_slice_whole _ _
    rw [e 0, e 1]; exact rects_cover
  | 2 => by
    have e (s : Fin 2) : (slotV 2 s).set = (Rect.unit (s := S2x256x512) (slotOff s.val) S1x256x512.size (slotOff_inb s)).set := View.set_slice_whole _ _
    rw [e 0, e 1]; exact rects_cover
  | 3 => by
    have e (s : Fin 2) : (slotV 3 s).set = (Rect.unit (s := S2x256x512) (slotOff s.val) S1x256x512.size (slotOff_inb s)).set := View.set_slice_whole _ _
    rw [e 0, e 1]; exact rects_cover

/-- A landing buffer is its two slots, -/
theorem slots_split (r : Fin 4) (c : Dev nD) (f : Buf (Elt F) ((commM r).view.loc (c : Thread nD τ))) :
    ((commM r).view.loc (c : Thread nD τ) ↦{fullShare} f) ⊢ (slots2 r c : sProp 𝕄) := by
  unfold slots2 slotAny slot
  have h : ((commM r).view.loc (c : Thread nD τ) ↦{fullShare} f)
      ⊢ (iprop(((slotV r 0).loc (c : Thread nD τ) ↦[(slotV r 0).set]{fullShare} f) ∗ ((slotV r 1).loc (c : Thread nD τ) ↦[(slotV r 1).set]{fullShare} f)) : sProp 𝕄) := by
    show ((commM r).view.loc (c : Thread nD τ) ↦[Finset.univ]{fullShare} f) ⊢ _
    rw [← slots_cover r]
    exact (pointsTo_union (slots_disjoint r)).1
  refine h.trans ?_
  iintro ⟨H0, H1⟩
  isplitl [H0]
  · iexists f; iexact H0
  · iexists f; iexact H1

/-- and back. -/
theorem slots_merge (r : Fin 4) (c : Dev nD) :
    (slots2 r c : sProp 𝕄) ⊢ iprop(∃ f : Buf (Elt F) ((commM r).view.loc (c : Thread nD τ)), (commM r).view.loc (c : Thread nD τ) ↦{fullShare} f) := by
  unfold slots2 slotAny slot
  iintro ⟨⟨%f, H0⟩, %g, H1⟩
  iexists ((slotV r 1).set.piecewise g f)
  iapply (show iprop(((slotV r 0).loc (c : Thread nD τ) ↦[(slotV r 0).set]{fullShare} f) ∗ ((slotV r 1).loc (c : Thread nD τ) ↦[(slotV r 1).set]{fullShare} g))
      ⊢ ((commM r).view.loc (c : Thread nD τ) ↦[Finset.univ]{fullShare} ((slotV r 1).set.piecewise g f) : sProp 𝕄) from by
    rw [← slots_cover r]
    exact pointsTo_join (slots_disjoint r))
  isplitl [H0]; · iexact H0
  iexact H1

end Cert.Ring

end
-- ==== Proof.Run.lean ====
module

public import proofs.«01_k».proof.Proof.Cred
public import proofs.«01_k».proof.Proof.Gen.KernelIdeal.Launch
public import proofs.«01_k».proof.Proof.Gen.KernelIdeal.Points
public import Idealize.ShloMosaic.Lib.Pipeline.CollectiveSegs

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-- The memory the program starts from, every semaphore at zero. -/
abbrev s₀ : MemSt nD τ sig (Elt F) := ⟨m, fun _ => 0, ρ⟩

/-! ## The staged operands -/

def xOf (c : Dev nD) : Vec F S4096x256 .fp8e4m3 := (win0_0.blk (0 : Fin 1)).view.read (Elt F) (m ((c : Thread nD τ).loc main_arg0))
def wOf (c : Dev nD) : Vec F S256x2048 .fp8e4m3 := (win0_1.blk (0 : Fin 1)).view.read (Elt F) (m ((c : Thread nD τ).loc main_arg1))
def sxOf (c : Dev nD) : Vec F S1 .f32 := (win0_2.blk (0 : Fin 1)).view.read (Elt F) (m ((c : Thread nD τ).loc main_arg2))
def swOf (c : Dev nD) : Vec F S1 .f32 := (win0_3.blk (0 : Fin 1)).view.read (Elt F) (m ((c : Thread nD τ).loc main_arg3))

/-- What the kernel leaves in the result. -/
def resOf (c : Dev nD) : Vec F S4096x2048 .f32 := outAt (xOf m) (wOf m) (sxOf m) (swOf m) c

/-! ## Before and after the kernel -/

def Φ₀ (c : Dev nD) : sProp 𝕄 :=
  iprop(start (xOf m) (wOf m) c ∗ (∃ f, accPts c Finset.univ f) ∗ (slots2 0 c ∗ slots2 1 c ∗ slots2 2 c ∗ slots2 3 c))
def Φ₁ (c : Dev nD) : sProp 𝕄 :=
  iprop((∃ f, accPts c Finset.univ f) ∗ (slots2 0 c ∗ slots2 1 c ∗ slots2 2 c ∗ slots2 3 c)
    ∗ (semsOff 0 c ∗ semsOff 1 c ∗ semsOff 2 c ∗ semsOff 3 c) ∗ semVal (kcell c none) 0)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xOf m c
    | ⟨1, _⟩ => wOf m c
    | ⟨2, _⟩ => sxOf m c
    | ⟨3, _⟩ => swOf m c
    | ⟨4, _⟩ => resOf m c
  Φ t := match t with
    | ⟨0, _⟩ => Φ₀ m c
    | ⟨_ + 1, _⟩ => Φ₁ c
  q _ := fullShare
  owed t := match t with
    | ⟨0, _⟩ => owed0 c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the kernel, -/
def bodyPre (c : Dev nD) : sProp 𝕄 :=
  iprop(Φ₀ m c ∗ (dats m ρ 0 c).owesAt 0 t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
/-- and what it takes back. -/
def bodyPost (c : Dev nD) : sProp 𝕄 :=
  iprop(Φ₁ c ∗ (dats m ρ 0 c).owesAt 0 t0_0.succ
    ∗ stg c cc0_stg0_0 (xOf m c) ∗ stg c cc0_stg1_0 (wOf m c) ∗ stg c cc0_stg2_0 (sxOf m c) ∗ stg c cc0_stg3_0 (swOf m c) ∗ stg c cc0_stg4_0 (resOf m c))

theorem body_sound (c : Dev nD) :
    bodyPre m ρ c ⊢ WP c (cc0_body xM (Memref.isWhole_whole _) wM (Memref.isWhole_whole _) sxM (Memref.isWhole_whole _) swM (Memref.isWhole_whole _) outM (Memref.isWhole_whole _) accM (Memref.isWhole_whole _) (commM 0) (Memref.isWhole_whole _) cc0_scratch2 cc0_scratch3 cc0_scratch4 (commM 1) (Memref.isWhole_whole _) cc0_scratch6 cc0_scratch7 cc0_scratch8 (commM 2) (Memref.isWhole_whole _) cc0_scratch10 cc0_scratch11 cc0_scratch12 (commM 3) (Memref.isWhole_whole _) cc0_scratch14 cc0_scratch15 cc0_scratch16) (fun _ => bodyPost m ρ c) := by
  unfold bodyPre Φ₀ start
  iintro ⟨⟨⟨%κ, %κs, HR, HG, HB, HL⟩, Hacc, Hs0, Hs1, Hs2, Hs3⟩, Ho, ⟨%d0, %g0, %hg0, P0⟩, ⟨%d1, %g1, %hg1, P1⟩, ⟨%d2, %g2, %hg2, P2⟩, ⟨%d3, %g3, %hg3, P3⟩, ⟨%d4, %g4, %hg4, P4⟩⟩
  have h0 : g0 = xOf m c := by rw [hg0]; unfold Pipeline.Dat.before; rw [if_pos (fetch0_0 t0_0)]; rfl
  have h1 : g1 = wOf m c := by rw [hg1]; unfold Pipeline.Dat.before; rw [if_pos (fetch0_1 t0_0)]; rfl
  have h2 : g2 = sxOf m c := by rw [hg2]; unfold Pipeline.Dat.before; rw [if_pos (fetch0_2 t0_0)]; rfl
  have h3 : g3 = swOf m c := by rw [hg3]; unfold Pipeline.Dat.before; rw [if_pos (fetch0_3 t0_0)]; rfl
  subst h0 h1 h2 h3
  unfold Pipeline.Dat.owesAt Pipeline.owesWithin
  icases Ho with ⟨%W, %hW, HO⟩
  rw [show (dats m ρ 0 c).owed t0_0.castSucc = owed0 c from rfl]
  icases HG with ⟨G0, G1, G2, G3⟩
  ihave Hk := (wp_body (xOf m) (wOf m) κ κs (sxOf m) (swOf m) c (harg0 := Memref.isWhole_whole _) (harg1 := Memref.isWhole_whole _)
    (harg2 := Memref.isWhole_whole _) (harg3 := Memref.isWhole_whole _) (harg4 := Memref.isWhole_whole _)) $$ [HR G0 G1 G2 G3 Hs0 Hs1 Hs2 Hs3 HB HL Hacc P0 P1 P2 P3 P4 HO]
  · isplitl [HR]; · iexact HR
    isplitl [G0 G1 G2 G3 Hs0 Hs1 Hs2 Hs3 HB]
    · unfold entry
      isplitl [G0 G1 G2 G3]
      · isplitl [G0]; · iexact G0
        isplitl [G1]; · iexact G1
        isplitl [G2] <;> iassumption
      isplitl [Hs0 Hs1 Hs2 Hs3]
      · isplitl [Hs0]; · iexact Hs0
        isplitl [Hs1]; · iexact Hs1
        isplitl [Hs2] <;> iassumption
      iexact HB
    isplitl [HL]; · iexact HL
    isplitl [Hacc]; · iexact Hacc
    isplitl [P0]; · unfold xPts; iexact P0
    isplitl [P1]; · unfold wPts; iexact P1
    isplitl [P2]; · unfold sxPts; iexact P2
    isplitl [P3]; · unfold swPts; iexact P3
    isplitl [P4]; · iexists g4; iexact P4
    unfold owesX
    iexists W; iexact HO
  iapply (wp_mono _ _ _ (Q := fun _ => leave (xOf m) (wOf m) (sxOf m) (swOf m) c) fun _ => show leave (xOf m) (wOf m) (sxOf m) (swOf m) c ⊢ bodyPost m ρ c from by
    unfold leave bodyPost Φ₁ owesX Pipeline.Dat.owesAt Pipeline.owesWithin xPts wPts sxPts swPts
    rw [show (dats m ρ 0 c).owed t0_0.succ = 0 from rfl]
    iintro ⟨⟨P0, P1, P2, P3, P4⟩, Hacc, Hs, Hoff, Hb, %W', HO⟩
    isplitl [Hacc Hs Hoff Hb]
    · isplitl [Hacc]; · iexact Hacc
      isplitl [Hs]; · iexact Hs
      isplitl [Hoff] <;> iassumption
    isplitl [HO]
    · iexists W'
      isplitr
      · ipureintro; exact fun _ _ => Or.inl trivial
      iexact HO
    isplitl [P0]
    · iexists (xOf m c); isplitr; · ipureintro; rfl
      iexact P0
    isplitl [P1]
    · iexists (wOf m c); isplitr; · ipureintro; rfl
      iexact P1
    isplitl [P2]
    · iexists (sxOf m c); isplitr; · ipureintro; rfl
      iexact P2
    isplitl [P3]
    · iexists (swOf m c); isplitr; · ipureintro; rfl
      iexact P3
    · iexists (resOf m c); isplitr; · ipureintro; rfl
      iexact P4)
  iexact Hk

theorem body_obligation (c : Dev nD) : Pipeline.BodyObligation (dats m ρ 0 c) (defs₀ (F := F)) 𝒱₀ 0 Set.univ := fun t => by
  rw [fin_N0 t]
  rw [bigSep_W0, bigSep_W0]
  simp only [owns_whole_eq]
  exact body_sound m ρ c

/-! ## The launch -/

theorem share_eq (c : Dev nD) (w : Fin cfg0.W) : (dats m ρ 0 c).share w = fullShare := by unfold Pipeline.Dat.share; split <;> rfl

/-- The launch's resources: the pipeline's, the rounds', the slots'. -/
def u₀ : UU :=
  (initOf (Pipeline.cells cfgs cellOf_inj) (Pipeline.launchToks cfgs cellOf_inj), initOf allCells allToks, initSlots (Finset.univ : Finset Key) 16)

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ devGhost (xOf m) (wOf m) c)
      ⊢ |={Set.univ}=> (iprop(start (xOf m) (wOf m) c ∗ emp) : sProp 𝕄) := by
  iintro ⟨-, Hlev, Hcr, -, HG⟩
  ihave Hc := (launch_creds (F := F) c) $$ Hcr
  imodintro
  isplitl
  · iapply (mk_start (xOf m) (wOf m) c)
    isplitl [HG]; · iexact HG
    isplitl [Hlev]
    · unfold levs; iexact Hlev
    iexact Hc
  · iempintro

theorem phi0_intro (c : Dev nD) :
    iprop(start (xOf m) (wOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%fa, Ha⟩, ⟨%f0, H0⟩, ⟨%f1, H1⟩, ⟨%f2, H2⟩, ⟨%f3, H3⟩⟩
  isplitl [Hs]; · iexact Hs
  isplitl [Ha]
  · iexists fa; unfold accPts; iexact Ha
  isplitl [H0]; · iapply (slots_split 0 c f0); iexact H0
  isplitl [H1]; · iapply (slots_split 1 c f1); iexact H1
  isplitl [H2]; · iapply (slots_split 2 c f2); iexact H2
  iapply (slots_split 3 c f3); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_four]
  unfold Φ₁
  iintro ⟨⟨%fa, Ha⟩, ⟨H0, H1, H2, H3⟩, Hoff, Hb⟩
  isplitl [Hb]; · iexact Hb
  isplitl [Hoff]; · iexact Hoff
  isplitl [Ha]
  · iexists fa; unfold accPts; iexact Ha
  isplitl [H0]; · iapply (slots_merge 0 c); iexact H0
  isplitl [H1]; · iapply (slots_merge 1 c); iexact H1
  isplitl [H2]; · iapply (slots_merge 2 c); iexact H2
  iapply (slots_merge 3 c); iexact H3

/-- A cell outside the protocol is at level 0. -/
theorem lv_out (c : Dev nD) (sm : SemLoc sig) (h : ∀ k, csem k ≠ sm) (i : ℕ) : lv ((c : Thread nD τ), sm) i = 0 := by
  unfold lv dec
  have hn : ¬ ∃ p : Dev nD × CK, kcell p.1 p.2 = ((c : Thread nD τ), sm) := by
    rintro ⟨p, hp⟩
    exact h p.2 (congrArg Prod.snd hp)
  rw [show Function.partialInv (fun p : Dev nD × CK => kcell p.1 p.2) ((c : Thread nD τ), sm) = none from dif_neg hn]

theorem owed0_pos {c : Dev nD} {g : GSem nD τ sig} {i : ℕ} (h : 0 < owed0 c g i) :
    i < 30 ∧ g.1.2 = .tc ∧ 1 ≤ lv g i := by
  unfold owed0 at h
  rw [Pi.add_apply, Finsupp.add_apply, Pi.add_apply, Finsupp.add_apply] at h
  rcases (by omega : 0 < owed c (fun _ => 0) (fun _ => 0) g i ∨ 0 < tallyAt (kcell (shift c 1) none) 0 1 g i ∨ 0 < tallyAt (kcell (shift c 15) none) 0 1 g i) with h | h | h
  · obtain ⟨r, ⟨_, h2, rfl⟩ | ⟨_, h2, rfl⟩⟩ := owed_pos h
    · exact ⟨by omega, rfl, by rw [lv_rcv]; omega⟩
    · exact ⟨by omega, rfl, by rw [lv_crd]; omega⟩
  · obtain ⟨rfl, rfl⟩ := Pipeline.tallyAt_pos h
    exact ⟨by omega, rfl, by rw [lv_bar]⟩
  · obtain ⟨rfl, rfl⟩ := Pipeline.tallyAt_pos h
    exact ⟨by omega, rfl, by rw [lv_bar]⟩

theorem wait_stage (c : Dev nD) (sm : SemLoc sig) (h : ∀ k, csem k ≠ sm) (O : CellTallies nD τ sig ℕ) (hO : O = owed0 c ∨ O = 0) :
    (levAts L lv : sProp 𝕄) ⊢ MayWait (c : Thread nD τ) sm 0 O := by
  have hp : ∀ g j, 0 < O g j → 0 < owed0 c g j := by
    rcases hO with rfl | rfl
    · exact fun _ _ h => h
    · exact fun _ _ h => absurd h (Nat.lt_irrefl 0)
  exact MayOwe.of_cut (L := L) (lev := lv) 0
    (fun p hp => by rw [Finset.mem_singleton.mp hp, L_tc]; exact Finset.mem_range.mpr (show (0 : ℕ) < 30 by decide))
    (fun g j hg => by
      obtain ⟨h1, h2, _⟩ := owed0_pos (hp g j hg)
      unfold L; rw [if_pos h2]; exact Finset.mem_range.mpr h1)
    (fun p hp => by rw [Finset.mem_singleton.mp hp]; exact le_of_eq (lv_out c sm h 0))
    (fun g j hg => (owed0_pos (hp g j hg)).2.2)

theorem waits (c : Dev nD) : (levAts L lv : sProp 𝕄) ⊢ Pipeline.cellsWaits cfgs (dats m ρ) 0 0 c :=
  Pipeline.cellsWaits_intro cfgs (dats m ρ) 0 0 c fun w s t =>
    wait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every array of every device at its final contents. -/
def QC : PUnit × MemSt nD τ sig (Elt F) → Prop := fun r =>
  ∀ c : Dev nD, ∀ w : Fin cfg0.W, r.2.mem ((cfg0.win w).arr.view.loc (c : Thread nD τ)) = finalA m ρ c w

/-- The rounds' and the slots' elements, owned together, are owned apart. -/
theorem own_rounds_slots (a : URounds (GSem nD τ sig) ℕ) (b : USlots Key) :
    (BI.own ((EB : Emb UB 𝕄) (a, b)) : sProp 𝕄) ⊢ iprop(BI.own (ER a) ∗ BI.own (EK b)) :=
  BI.own_op_elim ((EB : Emb UB 𝕄).op_of_mem (Prod.mk_mem_op (URA.mem_op_one a) (URA.mem_one_op b)))

set_option maxRecDepth 8000 in
/-- For any float values, from any memory with every semaphore at zero: every fair execution ends, with each device's arrays
at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := dealt (xOf m) (wOf m)) (G' := devGhost (xOf m) (wOf m)) (u₀ := u₀)
    (hu₀ := by
      unfold u₀
      iintro Hu
      ihave H := (ownU_pair _ _) $$ Hu
      icases H with ⟨HP, HX⟩
      ihave HX' := (own_rounds_slots _ _) $$ HX
      imod (fund_all (xOf m) (wOf m)) $$ HX' with HG
      imodintro
      isplitl [HP] <;> iassumption)
    (hglob := glob (xOf m) (wOf m))
    (hA := fun _ _ => rfl) (hpf := fun _ k => k.elim0)
    (X := start (xOf m) (wOf m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they were, -/
theorem final_in (c : Dev nD) : finalA m ρ c (0 : Fin 5) = m (win0_0.arr.view.loc (c : Thread nD τ)) ∧ finalA m ρ c (1 : Fin 5) = m (win0_1.arr.view.loc (c : Thread nD τ))
    ∧ finalA m ρ c (2 : Fin 5) = m (win0_2.arr.view.loc (c : Thread nD τ)) ∧ finalA m ρ c (3 : Fin 5) = m (win0_3.arr.view.loc (c : Thread nD τ)) :=
  ⟨(dats m ρ 0 c).arrAt_in (0 : Fin 5) rfl _, (dats m ρ 0 c).arrAt_in (1 : Fin 5) rfl _, (dats m ρ 0 c).arrAt_in (2 : Fin 5) rfl _,
    (dats m ρ 0 c).arrAt_in (3 : Fin 5) rfl _⟩

end Cert.Ring

end
-- ==== Proof.Walk.lean ====
/-
# `Walk`: thirty hops of a ring sum over the devices

One place of the accumulator, over a ring's hops: the first fifteen hops add what the device behind holds, the others
replace by it. After thirty hops every device holds the sum over all of them, in any commutative monoid.
-/
module

public import proofs.«01_k».proof.Proof.Ring

@[expose] public section

noncomputable section

namespace Cert.Ring

open Cert.KernelIdeal
open Idealize.ShloMosaic

/-- The device `j` places behind `c` on ring `r`. -/
def back (r : Fin 4) (c : Dev nD) (j : ℕ) : Dev nD :=
  if r.val < 2 then ⟨(c.val + 15 * j) % 16, Nat.mod_lt _ (by decide)⟩ else ⟨(c.val + j) % 16, Nat.mod_lt _ (by decide)⟩

theorem back_zero (r : Fin 4) (c : Dev nD) : back r c 0 = c := by
  have hc : c.val < 16 := c.isLt
  unfold back
  split <;> exact Fin.ext (by simp only; omega)

theorem back_org (r : Fin 4) (c : Dev nD) (j : ℕ) : back r (org r c) j = back r c (j + 1) := by
  unfold back org shift
  by_cases hr : r.val < 2
  · simp only [hr, if_true]; refine Fin.ext ?_; simp only; omega
  · simp only [hr, if_false]; refine Fin.ext ?_; simp only; omega

/-- The sixteen devices behind `c`, itself first, are all of them. -/
theorem sum_back {M : Type} [AddCommMonoid M] (r : Fin 4) (c : Dev nD) (y : Dev nD → M) :
    ∑ j ∈ Finset.range 16, y (back r c j) = ∑ c', y c' := by
  rw [Finset.sum_range]
  refine Fintype.sum_bijective (fun j : Fin 16 => back r c j.val) ((Finite.injective_iff_bijective (α := Fin 16)).mp ?_) _ _ fun _ => rfl
  intro j j' h
  have hc : c.val < 16 := c.isLt
  have h' := congrArg Fin.val h
  unfold back at h'
  by_cases hr : r.val < 2
  · simp only [hr, if_true] at h'; exact Fin.ext (by omega)
  · simp only [hr, if_false] at h'; exact Fin.ext (by omega)

/-- The hop, modulo sixteen, at which device `c` of ring `r` sends row block `p`. -/
def hopOf (r : Fin 4) (p : Fin 16) (c : Dev nD) : ℕ :=
  if r.val < 2 then (c.val + 16 - p.val) % 16 else (p.val + 16 - c.val) % 16

theorem hopOf_lt (r : Fin 4) (p : Fin 16) (c : Dev nD) : hopOf r p c < 16 := by
  unfold hopOf; split <;> exact Nat.mod_lt _ (by decide)

theorem chunk_eq_iff (r : Fin 4) (p : Fin 16) (c : Dev nD) (h : ℕ) : chunk r c h = p ↔ h % 16 = hopOf r p c := by
  have hc : c.val < 16 := c.isLt
  unfold chunk hopOf
  rw [Fin.ext_iff]
  by_cases hr : r.val < 2
  · simp only [hr, if_true]; omega
  · simp only [hr, if_false]; omega

theorem hopOf_org (r : Fin 4) (p : Fin 16) (c : Dev nD) : hopOf r p (org r c) = (hopOf r p c + 15) % 16 := by
  have hc : c.val < 16 := c.isLt
  unfold hopOf org shift
  by_cases hr : r.val < 2
  · simp only [hr, if_true]; omega
  · simp only [hr, if_false]; omega

section
variable {M : Type} [AddCommMonoid M] (r : Fin 4) (p : Fin 16) (y : Dev nD → M) (a : ℕ → Dev nD → M)
  (h0 : ∀ c, a 0 c = y c)
  (hs : ∀ h c, a (h + 1) c = if chunk r c (h + 1) = p then (if h < 15 then a h c + a h (org r c) else a h (org r c)) else a h c)
include h0 hs

/-- In the first fifteen hops: a device whose turn has come holds the sum over the devices behind it, up to the block's own. -/
theorem walk_sum (h : ℕ) (hh : h ≤ 15) (c : Dev nD) :
    a h c = ∑ j ∈ Finset.range ((if hopOf r p c ≤ h then hopOf r p c else 0) + 1), y (back r c j) := by
  induction h generalizing c with
  | zero =>
    rw [h0, show (if hopOf r p c ≤ 0 then hopOf r p c else 0) = 0 from by split <;> omega, Finset.sum_range_one, back_zero]
  | succ h ih =>
    have hlt := hopOf_lt r p c
    rw [hs, if_pos (show h < 15 by omega)]
    by_cases hk : chunk r c (h + 1) = p
    · have hk' := (chunk_eq_iff r p c (h + 1)).mp hk
      have ho : hopOf r p (org r c) = h := by rw [hopOf_org]; omega
      rw [if_pos hk, ih (by omega) c, ih (by omega) (org r c), ho, if_neg (by omega), if_pos (le_refl h), if_pos (by omega),
        show hopOf r p c + 1 = (h + 1) + 1 from by omega, Finset.sum_range_one,
        Finset.sum_range_succ' (fun j => y (back r c j)) (h + 1), add_comm]
      refine congrArg (· + _) (Finset.sum_congr rfl fun j _ => by rw [back_org])
    · have hk' : ¬ (h + 1) % 16 = hopOf r p c := fun e => hk ((chunk_eq_iff r p c (h + 1)).mpr e)
      rw [if_neg hk, ih (by omega) c,
        show (if hopOf r p c ≤ h + 1 then hopOf r p c else 0) = if hopOf r p c ≤ h then hopOf r p c else 0 from by
          by_cases h1 : hopOf r p c ≤ h
          · rw [if_pos h1, if_pos (by omega)]
          · rw [if_neg h1, if_neg (by omega)]]

/-- In the hops after: a device whose turn has come holds the sum over all devices. -/
theorem walk_copy (t : ℕ) (ht : t ≤ 15) (c : Dev nD) (hc : hopOf r p c < t ∨ hopOf r p c = 15) : a (15 + t) c = ∑ c', y c' := by
  induction t generalizing c with
  | zero =>
    have e : hopOf r p c = 15 := by omega
    rw [walk_sum r p y a h0 hs 15 (le_refl _) c, e, if_pos (le_refl _), sum_back]
  | succ t ih =>
    have hlt := hopOf_lt r p c
    rw [← Nat.add_assoc, hs, if_neg (show ¬ 15 + t < 15 by omega)]
    by_cases hk : chunk r c (15 + t + 1) = p
    · have hk' := (chunk_eq_iff r p c (15 + t + 1)).mp hk
      rw [if_pos hk]
      exact ih (by omega) (org r c) (by rw [hopOf_org]; omega)
    · have hk' : ¬ (15 + t + 1) % 16 = hopOf r p c := fun e => hk ((chunk_eq_iff r p c (15 + t + 1)).mpr e)
      rw [if_neg hk]
      exact ih (by omega) c (by omega)

/-- After thirty hops every device holds the sum over all devices. -/
theorem walk_end (c : Dev nD) : a 30 c = ∑ c', y c' :=
  walk_copy r p y a h0 hs 15 (le_refl _) c (by have := hopOf_lt r p c; omega)

end

end Cert.Ring

end
-- ==== Proof.Value.lean ====
/-
# `Value`: what the kernel computes in exact arithmetic

At the ideal instance the accumulator ends, on every device, at the sum over the devices of their products, and the
output is `y / (1 + e^(-y))` of that sum scaled.
-/
module

public import proofs.«01_k».proof.Proof.Walk
public import proofs.«01_k».proof.Proof.Body
public import Idealize.ShloMosaic.PureOps.Ideal
public import Idealize.ShloMosaic.Lib.Pointwise

@[expose] public section

set_option maxRecDepth 16384

noncomputable section

namespace Cert.Ring

open Cert.KernelIdeal Cert.KernelIdeal.Gen
open Idealize.ShloMosaic
open Idealize.ShloMosaic.TcCoe

/-! ## A block of a band, element by element -/

section
variable {F : FTy → Type} [FloatOps F]

/-- An index inside its block. -/
def inBlk (i : S4096x2048.Idx) : S256x512.Idx := fun a => match a with
  | 0 => ⟨(i 0).val % 256, Nat.mod_lt _ (by decide)⟩
  | 1 => ⟨(i 1).val % 512, Nat.mod_lt _ (by decide)⟩

theorem emb_inBlk (r : Fin 4) (p : Fin 16) (i : S4096x2048.Idx) (h : (i 0).val / 256 = p.val) (hr : (i 1).val / 512 = r.val) :
    (Rect.unit (s := S4096x2048) (blkOff r p) S256x512.size (blkOff_inb r p)).emb (inBlk i) = i := by
  funext a
  apply Fin.ext
  rw [Rect.emb_apply]
  fin_cases a
  · show 256 * p.val + 1 * ((i 0).val % 256) = (i 0).val; omega
  · show 512 * r.val + 1 * ((i 1).val % 512) = (i 1).val; omega

/-- A block read at an index of it is the array there, -/
theorem blk_read (r : Fin 4) (p : Fin 16) (f : Acc F) (i : S4096x2048.Idx) (h : (i 0).val / 256 = p.val) (hr : (i 1).val / 512 = r.val) :
    (blk r p).read (Elt F) f (inBlk i) = f i := by
  have e : (blk r p).emb (inBlk i) = i := emb_inBlk r p i h hr
  have := (blk r p).read_apply (Val := Elt F) (f := f) (x := inBlk i)
  rw [e] at this
  exact this

/-- and a block written changes the band's indices of that row block. -/
theorem blk_write (r : Fin 4) (p : Fin 16) (f : Acc F) (v : Vec F S256x512 .bf16) (i : S4096x2048.Idx) (hr : (i 1).val / 512 = r.val) :
    (blk r p).write (Elt F) f v Finset.univ i = if p = rowBlk i then v (inBlk i) else f i := by
  split
  next h =>
    have e : (blk r p).emb (inBlk i) = i := emb_inBlk r p i (by rw [h]; rfl) hr
    have := (blk r p).write_emb_of_mem (Val := Elt F) f v (Finset.mem_univ (inBlk i))
    rw [e] at this
    exact this
  next h =>
    refine View.write_of_not_mem (Val := Elt F) _ _ _ (fun hm => h ?_)
    rw [View.setOn_univ, show (blk r p).set = _ from View.set_slice_whole _ _, Rect.mem_set_unit] at hm
    have h0 := hm 0
    have e0 : blkOff r p 0 = 256 * p.val := rfl
    have e2 : S256x512.size 0 = 256 := rfl
    exact Fin.ext (show p.val = (i 0).val / 256 by omega)

/-- The block that landed, without its axis of one. -/
theorem shapeCast_lift (X : Vec F S256x512 .bf16) : shapeCast S256x512 (lift X) shapeCasts_S1x256x512_S256x512 = X := by
  funext i
  show X ((Shape.reshapeEquiv _).symm (Shape.reshapeEquiv _ i)) = X i
  exact congrArg X (Equiv.symm_apply_apply _ _)

theorem copy_apply (X : Vec F S256x512 .bf16) (j : S256x512.Idx) : k0_pay3 (lift X) j = X j := by
  show shapeCast S256x512 (shapeCast S256x512 (lift X) shapeCasts_S1x256x512_S256x512) shapeCasts_S256x512_S256x512 j = X j
  rw [shapeCast_lift]
  pointwise

end

/-- What a hop writes, in exact arithmetic. -/
theorem mix_apply (h : ℕ) (u X : Vec Ideal S256x512 .bf16) (j : S256x512.Idx) :
    mix h u X j = if h < 15 then ((u j : EReal) + (X j : EReal) : EReal) else X j := by
  unfold mix
  split
  · show shapeCast S256x512 (truncf .bf16 (addf (extf .f32 u bitsLt_bf16_f32)
      (extf .f32 (shapeCast S256x512 (lift X) shapeCasts_S1x256x512_S256x512) bitsLt_bf16_f32)) bitsLt_bf16_f32) shapeCasts_S256x512_S256x512 j = _
    rw [shapeCast_lift]
    pointwise
  · exact copy_apply X j

variable (x : Dev nD → Vec Ideal S4096x256 .fp8e4m3) (w : Dev nD → Vec Ideal S256x2048 .fp8e4m3)

/-- A row block of `x` read at a place of it is `x` there. -/
theorem xRows_apply (y : Vec Ideal S4096x256 .fp8e4m3) (i : S4096x2048.Idx) (k : Fin 256) :
    xRows y (rowBlk i) (ix2 (rowIn i 0) k) = y (ix2 (i 0) k) := by
  show y ((Rect.unit (s := S4096x256) (rowOff (rowBlk i).val) S256x256.size (rowOff_inb_x (rowBlk i))).emb (ix2 (rowIn i 0) k)) = _
  refine congrArg y (funext fun a => Fin.ext ?_)
  rw [Rect.emb_apply]
  fin_cases a
  · show 256 * ((i 0).val / 256) + 1 * ((i 0).val % 256) = (i 0).val; omega
  · show 0 + 1 * k.val = k.val; omega

/-- A device's product at an index, -/
def prodAt (c : Dev nD) (i : S4096x2048.Idx) : EReal := gemm x w c i
/-- which is the sum over its 256 columns of `x`. -/
theorem gemm_apply (c : Dev nD) (i : S4096x2048.Idx) :
    prodAt x w c i = ∑ k : Fin 256, (x c (ix2 (i 0) k) : EReal) * (w c (ix2 k (i 1)) : EReal) := by
  unfold prodAt gemm
  pointwise [k0_pay10]
  refine Finset.sum_congr rfl fun k _ => ?_
  rw [show rowIn i 1 = i 1 from rfl, xRows_apply]

/-- After all hops every device's accumulator is the sum of the devices' products. -/
theorem accEnd_apply (c : Dev nD) (i : S4096x2048.Idx) : accEnd x w c i = (∑ c', prodAt x w c' i : EReal) := by
  unfold accEnd
  have hb : (i 1).val / 512 < 4 := by have : (i 1).val < 2048 := (i 1).isLt; omega
  refine walk_end (M := EReal) ⟨(i 1).val / 512, hb⟩ (rowBlk i) (fun c' => prodAt x w c' i) (fun h c' => acc x w ⟨(i 1).val / 512, hb⟩ h c' i) (fun _ => rfl) (fun h c' => ?_) c
  rw [acc_succ, blk_write _ _ _ _ _ rfl]
  split
  next hp =>
    unfold landed
    rw [mix_apply, blk_read _ _ _ _ (by rw [hp]; rfl) rfl, blk_read _ _ _ _ (by rw [hp]; rfl) rfl]
  next => rfl

/-- `y / (1 + e^(-y))` is `y` times the logistic of `y`. -/
theorem silu (y : EReal) : y * Ideal.logistic y = Ideal.div y (1 + Ideal.exp (0 - y)) := by
  have h0 : 0 - y = -y := by rw [sub_eq_add_neg, zero_add]
  have hd : (1 : EReal) + Ideal.exp (-y) ≠ 0 := by
    induction y using EReal.rec with
    | bot => rw [EReal.neg_bot, Ideal.exp_top, EReal.add_top_of_ne_bot (show (1 : EReal) ≠ ⊥ from EReal.coe_ne_bot 1)]; exact EReal.top_ne_zero
    | top => rw [EReal.neg_top, Ideal.exp_bot, add_zero]; exact one_ne_zero
    | coe r =>
      rw [← EReal.coe_neg, Ideal.exp_coe, ← EReal.coe_one, ← EReal.coe_add]
      have : (0 : ℝ) < 1 + Real.exp (-r) := by positivity
      exact_mod_cast this.ne'
  rw [h0, Ideal.logistic, Ideal.div, Ideal.div, if_neg hd, if_neg hd, one_mul]

/-- The output at an index. -/
theorem outAt_apply (sx sw : Dev nD → Vec Ideal S1 .f32) (c : Dev nD) (i : S4096x2048.Idx) :
    outAt x w sx sw c i = (let y : EReal := (∑ c', prodAt x w c' i) * (elt1 (sx c) * elt1 (sw c) : EReal); Ideal.div y (1 + Ideal.exp (0 - y)) : EReal) := by
  have hr : (accRow (rowBlk i)).read (Elt Ideal) (accEnd x w c) (rowIn i) = accEnd x w c i := by
    have e : (accRow (rowBlk i)).emb (rowIn i) = i := emb_rowIn (rowBlk i) i rfl
    have := (accRow (rowBlk i)).read_apply (Val := Elt Ideal) (f := accEnd x w c) (x := rowIn i)
    rw [e] at this
    exact this
  unfold outAt outOf scale
  pointwise [k0_pay1, k0_pay15]
  rw [hr, accEnd_apply]
  exact silu _

end Cert.Ring

end
-- ==== Proof.RefValue.lean ====
/-
# `RefValue`: what the reference leaves in its result

At the ideal instance the reference's result is, element by element, `y / (1 + e^(-y))` of the scaled product of the
two whole matrices.
-/
module

public import proofs.«01_k».proof.Proof.Gen.ReferenceIdeal.Frame
public import Idealize.ShloMosaic.PureOps.Ideal
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RefValue

open Cert.ReferenceIdeal Cert.ReferenceIdeal.Gen
open Idealize.ShloMosaic
open Idealize.ShloMosaic.TcCoe

/-- The product of two whole matrices at `(i 0, i 1)`. -/
def prodFull (x : Vec Ideal S4096x4096 .fp8e4m3) (w : Vec Ideal S4096x2048 .fp8e4m3) (i : S4096x2048.Idx) : EReal :=
  ∑ k : Fin 4096, (x (ix2 (i 0) k) : EReal) * (w (ix2 k (i 1)) : EReal)

/-- The one index of a one-element vector. -/
def zero1 : S1.Idx := fun a => ⟨0, by fin_cases a; decide⟩

/-- `y / (1 + e^(-y))` of the scaled product, at every element. -/
def siluFull (x : Vec Ideal S4096x4096 .fp8e4m3) (w : Vec Ideal S4096x2048 .fp8e4m3) (sx sw : Vec Ideal S1 .f32) : Vec Ideal S4096x2048 .f32 := fun i =>
  (let y : EReal := prodFull x w i * ((sx zero1 : EReal) * (sw zero1 : EReal)); Ideal.div y (1 + Ideal.exp (0 - y)) : EReal)

/-- The stored vector at an index. -/
theorem pay_apply (x : Vec Ideal S4096x4096 .fp8e4m3) (w : Vec Ideal S4096x2048 .fp8e4m3) (s t : Elt Ideal .f32) (i : S4096x2048.Idx) :
    k0_pay1 x w s t i = (let y : EReal := prodFull x w i * ((s : EReal) * (t : EReal)); Ideal.div y (1 + Ideal.exp (0 - y)) : EReal) := by
  pointwise [k0_pay1]
  rfl

variable (m : (ℓ : Loc nD τ sig) → Buf (Elt Ideal) ℓ)

/-- Every input's block at the one grid point starts at the array's origin. -/
theorem index_zero : ∀ t : Fin cfg0.N, win0_0.index t = ![0, 0] ∧ win0_1.index t = ![0, 0] ∧ win0_2.index t = ![0] ∧ win0_3.index t = ![0] :=
  (by decide +kernel : ∀ t : Fin grid0.N, _)

/-! The inputs' blocks at the one grid point are the whole arrays. -/

theorem iblk0 (c : Dev nD) : iblk m c 0 t0_0 = m ((c : Thread nD τ).loc main_arg0) := by
  blk_ext! [iblk, V, index_zero t0_0]
theorem iblk1 (c : Dev nD) : iblk m c 1 t0_0 = m ((c : Thread nD τ).loc main_arg1) := by
  blk_ext! [iblk, V, index_zero t0_0]
theorem iblk2 (c : Dev nD) : iblk m c 2 t0_0 = m ((c : Thread nD τ).loc main_arg2) := by
  blk_ext! [iblk, V, index_zero t0_0]
theorem iblk3 (c : Dev nD) : iblk m c 3 t0_0 = m ((c : Thread nD τ).loc main_arg3) := by
  blk_ext! [iblk, V, index_zero t0_0]

/-- The result array after the run. -/
theorem final (c : Dev nD) : (dats m 0 c).arrAt 4 cfg0.N
    = siluFull (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out
  rw [iblk0, iblk1, iblk2, iblk3]
  simp only [read_unread_whole]
  rw [pay_apply]
  rfl

end Cert.RefValue

end
-- ==== Proof.Final.lean ====
/-
# `Final`: the kernel's result against the reference's

The result array of every device after the kernel's run, element by element, in terms of the argument arrays; the sum
over the devices of the products of their blocks is the product of the whole matrices; so both programs leave one array.
-/
module

public import proofs.«01_k».proof.Proof.Run
public import proofs.«01_k».proof.Proof.Value
public import proofs.«01_k».proof.Proof.RefValue
public import proofs.«01_k».proof.Defs

@[expose] public section

set_option maxRecDepth 16384

noncomputable section

namespace Cert.Ring

open Cert.KernelIdeal Cert.KernelIdeal.Gen
open Idealize.ShloMosaic
open Idealize.ShloMosaic.TcCoe

section
variable {F : FTy → Type} [FloatOps F] (m : (ℓ : Loc nD τ sig) → Buf (Elt F) ℓ) (ρ : Dev nD → PrngReg)

/-- Every input's block at the one grid point starts at the array's origin. -/
theorem index_zero : ∀ t : Fin cfg0.N, win0_0.index t = ![0, 0] ∧ win0_1.index t = ![0, 0] ∧ win0_2.index t = ![0] ∧ win0_3.index t = ![0] :=
  (by decide +kernel : ∀ t : Fin grid0.N, _)

/-! The blocks handed to the kernel are the whole argument arrays. -/

theorem xOf_eq (c : Dev nD) : xOf m c = m ((c : Thread nD τ).loc main_arg0) := by
  blk_ext! [xOf, index_zero (0 : Fin 1)]
theorem wOf_eq (c : Dev nD) : wOf m c = m ((c : Thread nD τ).loc main_arg1) := by
  blk_ext! [wOf, index_zero (0 : Fin 1)]
theorem sxOf_eq (c : Dev nD) : sxOf m c = m ((c : Thread nD τ).loc main_arg2) := by
  blk_ext! [sxOf, index_zero (0 : Fin 1)]
theorem swOf_eq (c : Dev nD) : swOf m c = m ((c : Thread nD τ).loc main_arg3) := by
  blk_ext! [swOf, index_zero (0 : Fin 1)]

/-- The result array after the run is what the kernel's body leaves. -/
theorem finalA_out (c : Dev nD) : finalA m ρ c (4 : Fin 5) = resOf m c := by
  unfold finalA
  refine (dats m ρ 0 c).arrAt_eq_of_after_last (4 : Fin 5) t0_0 (by decide +kernel) _ fun j => ?_
  blk_simp
  rfl

end

/-- The product of two matrices cut along the summed axis, one block a device, is the sum of the blocks' products. -/
theorem sum_blocks (X : Vec Ideal ⟨2, ![4096, 4096]⟩ .fp8e4m3) (W : Vec Ideal ⟨2, ![4096, 2048]⟩ .fp8e4m3) (i : S4096x2048.Idx) :
    ∑ c : Dev nD, prodAt (fun c => Layout.block ⟨2, ![4096, 256]⟩ ⟨2, ![4096, 4096]⟩ 1 16 c X) (fun c => Layout.block ⟨2, ![256, 2048]⟩ ⟨2, ![4096, 2048]⟩ 0 16 c W) c i
      = Cert.RefValue.prodFull X W i := by
  unfold Cert.RefValue.prodFull
  simp only [gemm_apply]
  rw [← (finProdFinEquiv (m := 16) (n := 256)).sum_comp, Fintype.sum_prod_type]
  refine Finset.sum_congr rfl fun c _ => Finset.sum_congr rfl fun k _ => ?_
  have hX : (by decide : Layout.Tiles ⟨2, ![4096, 256]⟩ ⟨2, ![4096, 4096]⟩ 1 16).idx c (ix2 (i 0) k) = ix2 (i 0) (finProdFinEquiv (c, k)) := by
    funext a
    apply Fin.ext
    match a with
    | 0 => rfl
    | 1 => show c.val * 256 + k.val = k.val + 256 * c.val; omega
  have hW : (by decide : Layout.Tiles ⟨2, ![256, 2048]⟩ ⟨2, ![4096, 2048]⟩ 0 16).idx c (ix2 k (i 1)) = ix2 (finProdFinEquiv (c, k)) (i 1) := by
    funext a
    apply Fin.ext
    match a with
    | 0 => show c.val * 256 + k.val = k.val + 256 * c.val; omega
    | 1 => rfl
  rw [Layout.block_apply, Layout.block_apply, hX, hW]
  rfl

/-- What every device leaves in its result, when its blocks are cut from the reference's arrays, is the reference's result. -/
theorem resOf_eq (m : (ℓ : Loc nD τ sig) → Buf (Elt Ideal) ℓ)
    (X : Vec Ideal ⟨2, ![4096, 4096]⟩ .fp8e4m3) (W : Vec Ideal ⟨2, ![4096, 2048]⟩ .fp8e4m3) (sx sw : Vec Ideal S1 .f32)
    (hx : ∀ c : Dev nD, m ((c : Thread nD τ).loc main_arg0) = Layout.block ⟨2, ![4096, 256]⟩ ⟨2, ![4096, 4096]⟩ 1 16 c X)
    (hw : ∀ c : Dev nD, m ((c : Thread nD τ).loc main_arg1) = Layout.block ⟨2, ![256, 2048]⟩ ⟨2, ![4096, 2048]⟩ 0 16 c W)
    (hsx : ∀ c : Dev nD, m ((c : Thread nD τ).loc main_arg2) = sx) (hsw : ∀ c : Dev nD, m ((c : Thread nD τ).loc main_arg3) = sw) (c : Dev nD) :
    resOf m c = Cert.RefValue.siluFull X W sx sw := by
  have ex : xOf m = fun c => Layout.block ⟨2, ![4096, 256]⟩ ⟨2, ![4096, 4096]⟩ 1 16 c X := funext fun c => (xOf_eq m c).trans (hx c)
  have ew : wOf m = fun c => Layout.block ⟨2, ![256, 2048]⟩ ⟨2, ![4096, 2048]⟩ 0 16 c W := funext fun c => (wOf_eq m c).trans (hw c)
  have esx : sxOf m c = sx := (sxOf_eq m c).trans (hsx c)
  have esw : swOf m c = sw := (swOf_eq m c).trans (hsw c)
  funext i
  unfold resOf
  rw [outAt_apply, ex, ew, esx, esw, sum_blocks]
  rfl

end Cert.Ring

namespace Cert.Final

open Idealize.ShloMosaic
open Idealize.ShloMosaic.TcCoe

/-- From arrays cut from the reference's, the kernel leaves on every device the array that the reference leaves, and both
    leave their arguments unchanged. -/
theorem algebraic : algebraic_KernelIdeal_ReferenceIdeal (hKernelIdeal := Cert.KernelIdeal.Gen.facts) (hReferenceIdeal := Cert.ReferenceIdeal.Gen.facts) := by
  intro m g m' g' _ hagree
  refine ⟨_, (θ_run Cert.KernelIdeal.defs _ _).mono (fun r h c => ⟨(h.1 c (4 : Fin 5)).trans ((Cert.Ring.finalA_out m g c).trans
      (Cert.Ring.resOf_eq m _ _ _ _ (fun c => (hagree c).1) (fun c => (hagree c).2.1) (fun c => (hagree c).2.2.1) (fun c => (hagree c).2.2.2) c)),
      (h.1 c (0 : Fin 5)).trans (Cert.Ring.final_in m g c).1, (h.1 c (1 : Fin 5)).trans (Cert.Ring.final_in m g c).2.1,
      (h.1 c (2 : Fin 5)).trans (Cert.Ring.final_in m g c).2.2.1, (h.1 c (3 : Fin 5)).trans (Cert.Ring.final_in m g c).2.2.2⟩)
      (Cert.Ring.run_main m g), ?_⟩
  exact (θ_run Cert.ReferenceIdeal.defs _ _).mono (fun r h => ⟨((h.1 0).1 (4 : Fin 5)).trans (Cert.RefValue.final m' 0), h.2 0⟩)
    (θ_run_and (Cert.ReferenceIdeal.Gen.run_main m' g') (Cert.ReferenceIdeal.Gen.unchanged m' g'))

end Cert.Final

end
-- ==== Proof.lean ====
/- The claims about the kernel: every program runs to completion from any memory, its operands unchanged and every
   semaphore at zero again; in exact arithmetic the kernel leaves on every device what the reference leaves. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run
public import proofs.«01_k».proof.Proof.Final

@[expose] public section

noncomputable section

namespace Cert.Proof

open Idealize.ShloMosaic Idealize.SL.Sem

/-- For any float values: the kernel runs, its operands end unchanged, every semaphore is at zero again. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (0 : Fin 5)).trans (Cert.Ring.final_in m ρ c).1, (h.1 c (1 : Fin 5)).trans (Cert.Ring.final_in m ρ c).2.1,
      (h.1 c (2 : Fin 5)).trans (Cert.Ring.final_in m ρ c).2.2.1, (h.1 c (3 : Fin 5)).trans (Cert.Ring.final_in m ρ c).2.2.2⟩, h.2⟩)
    (Cert.Ring.run_main m ρ)

/-- The two printed programs have the same bodies, -/
theorem bodies_eq {F : FTy → Type} [FloatOps F] : (Cert.Kernel.defs₀ (F := F)) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- and the same pipelines around them. -/
theorem defs_eq {F : FTy → Type} [FloatOps F] : (Cert.Kernel.defs (F := F)) = Cert.KernelIdeal.defs := by
  unfold Cert.Kernel.defs Cert.KernelIdeal.defs
  exact congrArg (Pipeline.defs Cert.KernelIdeal.pcfgs) bodies_eq

/-- The kernel in machine arithmetic: the run, stated for any float values, taken at the bit patterns. -/
theorem frame_kernel : Cert.quiescent_Kernel := fun m ρ _ => by
  rw [defs_eq]
  exact frame_any (F := Bits) m ρ

/-- The kernel in exact arithmetic: the same run. -/
theorem frame_kernelIdeal : Cert.quiescent_KernelIdeal := fun m ρ _ => frame_any (F := Ideal) m ρ

/-- The reference. -/
theorem frame_reference : Cert.quiescent_ReferenceIdeal := fun m ρ _ => Cert.ReferenceIdeal.Gen.frame m ρ

/-- Everything claimed. -/
theorem claim : Cert.Claim := ⟨Cert.Kernel.Gen.facts, Cert.KernelIdeal.Gen.facts, Cert.ReferenceIdeal.Gen.facts,
  frame_kernel, frame_kernelIdeal, frame_reference, trivial, Cert.Final.algebraic⟩

end Cert.Proof

end
